-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x2048 : Shape := ⟨2, ![512, 2048]⟩
abbrev S2048x2048 : Shape := ⟨2, ![2048, 2048]⟩
abbrev S12x256x1024 : Shape := ⟨3, ![12, 256, 1024]⟩
abbrev S12 : Shape := ⟨1, ![12]⟩
abbrev S16 : Shape := ⟨1, ![16]⟩
abbrev S5 : Shape := ⟨1, ![5]⟩
abbrev S1 : Shape := ⟨1, ![1]⟩
abbrev S_ : Shape := ⟨0, ![]⟩
abbrev S512x512 : Shape := ⟨2, ![512, 512]⟩
abbrev S256x512 : Shape := ⟨2, ![256, 512]⟩
abbrev S512x1024 : Shape := ⟨2, ![512, 1024]⟩
abbrev S256x1024 : Shape := ⟨2, ![256, 1024]⟩
abbrev S1x256x1024 : Shape := ⟨3, ![1, 256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x2048, .f32⟩
  | .local _ .vmem, ⟨0, _⟩ => ⟨S2048x2048, .f32⟩
  | .local _ .vmem, ⟨1, _⟩ => ⟨S2048x512, .f32⟩
  | .local _ .vmem, ⟨2, _⟩ => ⟨S512x2048, .f32⟩
  | .local _ .vmem, ⟨3, _⟩ => ⟨S12x256x1024, .f32⟩
  | .local _ .vmem, ⟨4, _⟩ => ⟨S12x256x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_off1 (d0 : Dev nD) (c3_i32_8 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 32 := Scalar.addi v2 c3_i32_8
  let c4_i32_9 : BitVec 32 := 4#32
  let v16 : BitVec 32 := Scalar.remsi v15 c4_i32_9
  let c512_i32_10 : BitVec 32 := 512#32
  let v18 : BitVec 32 := Scalar.muli v16 c512_i32_10
  let c0_i32_12 : BitVec 32 := 0#32
  ![v18.toNat, 0]
def k0_off2 (d0 : Dev nD) (c3_i32_3 : BitVec 32) (c0_i32_40 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32_3
  let c4_i32_4 : BitVec 32 := 4#32
  let v8 : BitVec 32 := Scalar.remsi v7 c4_i32_4
  let c512_i32_39 : BitVec 32 := 512#32
  let v53 : BitVec 32 := Scalar.muli v8 c512_i32_39
  let v54 : BitVec 32 := Scalar.addi v53 c0_i32_40
  let v55 : Index := Scalar.indexCast v54
  let c0 : Index := 0#32
  ![v55.toNat, 0]
def k0_off3 (d0 : Dev nD) (c3_i32_3 : BitVec 32) (c0_i32_40 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32_3
  let c4_i32_4 : BitVec 32 := 4#32
  let v8 : BitVec 32 := Scalar.remsi v7 c4_i32_4
  let c512_i32_39 : BitVec 32 := 512#32
  let v53 : BitVec 32 := Scalar.muli v8 c512_i32_39
  let v54 : BitVec 32 := Scalar.addi v53 c0_i32_40
  let v59 : Index := Scalar.indexCast v54
  let c0_43 : Index := 0#32
  ![v59.toNat, 0]
def k0_off4 (d0 : Dev nD) (c1_i32_5 : BitVec 32) (c0_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.addi v2 c1_i32_5
  let c4_i32_6 : BitVec 32 := 4#32
  let v10 : BitVec 32 := Scalar.remsi v9 c4_i32_6
  let c512_i32_47 : BitVec 32 := 512#32
  let v67 : BitVec 32 := Scalar.muli v10 c512_i32_47
  let v68 : BitVec 32 := Scalar.addi v67 c0_i32_48
  let v73 : Index := Scalar.indexCast v68
  let c1024_52 : Index := 1024#32
  ![v73.toNat, 1024]
def k0_dev1 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_54 : BitVec 32 := 1#32
  let v78 : BitVec 32 := Scalar.muli v6 c1_i32_54
  let v79 : BitVec 32 := Scalar.addi c0_i32_55 v78
  v79.toNat
def k0_dev2 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_57 : BitVec 32 := 1#32
  let v80 : BitVec 32 := Scalar.muli v4 c1_i32_57
  let v81 : BitVec 32 := Scalar.addi c0_i32_58 v80
  v81.toNat
def k0_off5 (d0 : Dev nD) (c3_i32_3 : BitVec 32) (c0_i32_61 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32_3
  let c4_i32_4 : BitVec 32 := 4#32
  let v8 : BitVec 32 := Scalar.remsi v7 c4_i32_4
  let c512_i32_60 : BitVec 32 := 512#32
  let v82 : BitVec 32 := Scalar.muli v8 c512_i32_60
  let v83 : BitVec 32 := Scalar.addi v82 c0_i32_61
  let c0_i32_71 : BitVec 32 := 0#32
  ![v83.toNat, 0]
def k0_dev3 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_67 : BitVec 32 := 1#32
  let v86 : BitVec 32 := Scalar.muli v6 c1_i32_67
  let v87 : BitVec 32 := Scalar.addi c0_i32_68 v86
  v87.toNat
def k0_off6 (d0 : Dev nD) (c1_i32_5 : BitVec 32) (c0_i32_63 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.addi v2 c1_i32_5
  let c4_i32_6 : BitVec 32 := 4#32
  let v10 : BitVec 32 := Scalar.remsi v9 c4_i32_6
  let c512_i32_62 : BitVec 32 := 512#32
  let v84 : BitVec 32 := Scalar.muli v10 c512_i32_62
  let v85 : BitVec 32 := Scalar.addi v84 c0_i32_63
  let c1024_i32 : BitVec 32 := 1024#32
  ![v85.toNat, 1024]
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_75 : BitVec 32 := 1#32
  let v95 : BitVec 32 := Scalar.muli v4 c1_i32_75
  let v96 : BitVec 32 := Scalar.addi c0_i32_76 v95
  v96.toNat
def k0_dev5 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_99 : BitVec 32 := 1#32
  let v128 : BitVec 32 := Scalar.muli v6 c1_i32_99
  let v129 : BitVec 32 := Scalar.addi c0_i32_100 v128
  v129.toNat
def k0_dev6 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_107 : BitVec 32 := 1#32
  let v137 : BitVec 32 := Scalar.muli v4 c1_i32_107
  let v138 : BitVec 32 := Scalar.addi c0_i32_108 v137
  v138.toNat
def k0_off7 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v11 : BitVec 32 := Scalar.addi v2 c2_i32
  let c4_i32_7 : BitVec 32 := 4#32
  let v12 : BitVec 32 := Scalar.remsi v11 c4_i32_7
  let c512_i32_115 : BitVec 32 := 512#32
  let v150 : BitVec 32 := Scalar.muli v12 c512_i32_115
  let v151 : Index := Scalar.indexCast v150
  let c0_116 : Index := 0#32
  ![v151.toNat, 0]
def k0_off8 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v11 : BitVec 32 := Scalar.addi v2 c2_i32
  let c4_i32_7 : BitVec 32 := 4#32
  let v12 : BitVec 32 := Scalar.remsi v11 c4_i32_7
  let c512_i32_115 : BitVec 32 := 512#32
  let v150 : BitVec 32 := Scalar.muli v12 c512_i32_115
  let v155 : Index := Scalar.indexCast v150
  let c0_120 : Index := 0#32
  ![v155.toNat, 0]
def k0_off9 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v11 : BitVec 32 := Scalar.addi v2 c2_i32
  let c4_i32_7 : BitVec 32 := 4#32
  let v12 : BitVec 32 := Scalar.remsi v11 c4_i32_7
  let c512_i32_121 : BitVec 32 := 512#32
  let v159 : BitVec 32 := Scalar.muli v12 c512_i32_121
  let v164 : Index := Scalar.indexCast v159
  let c1024_126 : Index := 1024#32
  ![v164.toNat, 1024]
def k0_dev7 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_134 : BitVec 32 := 1#32
  let v172 : BitVec 32 := Scalar.muli v4 c1_i32_134
  let v173 : BitVec 32 := Scalar.addi c0_i32_135 v172
  v173.toNat
def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_142 : BitVec 32 := 1#32
  let v181 : BitVec 32 := Scalar.muli v6 c1_i32_142
  let v182 : BitVec 32 := Scalar.addi c0_i32_143 v181
  v182.toNat
def k0_dev9 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_153 : BitVec 32 := 1#32
  let v194 : BitVec 32 := Scalar.muli v4 c1_i32_153
  let v195 : BitVec 32 := Scalar.addi c0_i32_154 v194
  v195.toNat
def k0_dev10 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_161 : BitVec 32 := 1#32
  let v203 : BitVec 32 := Scalar.muli v6 c1_i32_161
  let v204 : BitVec 32 := Scalar.addi c0_i32_162 v203
  v204.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_169 : BitVec 32 := 512#32
  let v216 : BitVec 32 := Scalar.muli v2 c512_i32_169
  let v217 : Index := Scalar.indexCast v216
  let c0_170 : Index := 0#32
  ![v217.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_169 : BitVec 32 := 512#32
  let v216 : BitVec 32 := Scalar.muli v2 c512_i32_169
  let v221 : Index := Scalar.indexCast v216
  let c0_174 : Index := 0#32
  ![v221.toNat, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_175 : BitVec 32 := 512#32
  let v225 : BitVec 32 := Scalar.muli v2 c512_i32_175
  let v230 : Index := Scalar.indexCast v225
  let c1024_180 : Index := 1024#32
  ![v230.toNat, 1024]
def k0_off13 (d0 : Dev nD) (c0_i32_224 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_223 : BitVec 32 := 512#32
  let v276 : BitVec 32 := Scalar.muli v2 c512_i32_223
  let v277 : BitVec 32 := Scalar.addi v276 c0_i32_224
  let v278 : Index := Scalar.indexCast v277
  let c0_225 : Index := 0#32
  ![v278.toNat, 0]
def k0_off14 (d0 : Dev nD) (c0_i32_233 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_232 : BitVec 32 := 512#32
  let v289 : BitVec 32 := Scalar.muli v2 c512_i32_232
  let v290 : BitVec 32 := Scalar.addi v289 c0_i32_233
  let v291 : Index := Scalar.indexCast v290
  let c1024_234 : Index := 1024#32
  ![v291.toNat, 1024]
def k0_off15 (d0 : Dev nD) (c0_i32_242 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_241 : BitVec 32 := 512#32
  let v302 : BitVec 32 := Scalar.muli v2 c512_i32_241
  let v303 : BitVec 32 := Scalar.addi v302 c0_i32_242
  let c0_i32_252 : BitVec 32 := 0#32
  ![v303.toNat, 0]
def k0_dev11 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_248 : BitVec 32 := 1#32
  let v306 : BitVec 32 := Scalar.muli v6 c1_i32_248
  let v307 : BitVec 32 := Scalar.addi c0_i32_249 v306
  v307.toNat
def k0_off16 (d0 : Dev nD) (c0_i32_244 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_243 : BitVec 32 := 512#32
  let v304 : BitVec 32 := Scalar.muli v2 c512_i32_243
  let v305 : BitVec 32 := Scalar.addi v304 c0_i32_244
  let c1024_i32_260 : BitVec 32 := 1024#32
  ![v305.toNat, 1024]
def k0_dev12 (d0 : Dev nD) : Nat :=
  let c0_i32_257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_256 : BitVec 32 := 1#32
  let v315 : BitVec 32 := Scalar.muli v4 c1_i32_256
  let v316 : BitVec 32 := Scalar.addi c0_i32_257 v315
  v316.toNat
def k0_dev13 (d0 : Dev nD) : Nat :=
  let c0_i32_316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_315 : BitVec 32 := 1#32
  let v378 : BitVec 32 := Scalar.muli v6 c1_i32_315
  let v379 : BitVec 32 := Scalar.addi c0_i32_316 v378
  v379.toNat
def k0_dev14 (d0 : Dev nD) : Nat :=
  let c0_i32_324 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_323 : BitVec 32 := 1#32
  let v387 : BitVec 32 := Scalar.muli v4 c1_i32_323
  let v388 : BitVec 32 := Scalar.addi c0_i32_324 v387
  v388.toNat
def k0_dev15 (d0 : Dev nD) : Nat :=
  let c0_i32_419 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_418 : BitVec 32 := 1#32
  let v484 : BitVec 32 := Scalar.muli v4 c1_i32_418
  let v485 : BitVec 32 := Scalar.addi c0_i32_419 v484
  v485.toNat
def k0_dev16 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_426 : BitVec 32 := 1#32
  let v493 : BitVec 32 := Scalar.muli v6 c1_i32_426
  let v494 : BitVec 32 := Scalar.addi c0_i32_427 v493
  v494.toNat
def k0_dev17 (d0 : Dev nD) : Nat :=
  let c0_i32_438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_437 : BitVec 32 := 1#32
  let v506 : BitVec 32 := Scalar.muli v6 c1_i32_437
  let v507 : BitVec 32 := Scalar.addi c0_i32_438 v506
  v507.toNat
def k0_dev18 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_445 : BitVec 32 := 1#32
  let v515 : BitVec 32 := Scalar.muli v4 c1_i32_445
  let v516 : BitVec 32 := Scalar.addi c0_i32_446 v515
  v516.toNat
def k0_dev19 (d0 : Dev nD) : Nat :=
  let c0_i32_555 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_554 : BitVec 32 := 1#32
  let v628 : BitVec 32 := Scalar.muli v4 c1_i32_554
  let v629 : BitVec 32 := Scalar.addi c0_i32_555 v628
  v629.toNat
def k0_dev20 (d0 : Dev nD) : Nat :=
  let c0_i32_563 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_562 : BitVec 32 := 1#32
  let v637 : BitVec 32 := Scalar.muli v6 c1_i32_562
  let v638 : BitVec 32 := Scalar.addi c0_i32_563 v637
  v638.toNat
def k0_dev21 (d0 : Dev nD) : Nat :=
  let c0_i32_574 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_573 : BitVec 32 := 1#32
  let v650 : BitVec 32 := Scalar.muli v6 c1_i32_573
  let v651 : BitVec 32 := Scalar.addi c0_i32_574 v650
  v651.toNat
def k0_dev22 (d0 : Dev nD) : Nat :=
  let c0_i32_582 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_581 : BitVec 32 := 1#32
  let v659 : BitVec 32 := Scalar.muli v4 c1_i32_581
  let v660 : BitVec 32 := Scalar.addi c0_i32_582 v659
  v660.toNat
def k0_dev23 (d0 : Dev nD) : Nat :=
  let c0_i32_634 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_633 : BitVec 32 := 1#32
  let v708 : BitVec 32 := Scalar.muli v4 c1_i32_633
  let v709 : BitVec 32 := Scalar.addi c0_i32_634 v708
  v709.toNat
def k0_dev24 (d0 : Dev nD) : Nat :=
  let c0_i32_644 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_643 : BitVec 32 := 1#32
  let v718 : BitVec 32 := Scalar.muli v6 c1_i32_643
  let v719 : BitVec 32 := Scalar.addi c0_i32_644 v718
  v719.toNat
def k0_dev25 (d0 : Dev nD) : Nat :=
  let c0_i32_697 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_696 : BitVec 32 := 1#32
  let v766 : BitVec 32 := Scalar.muli v4 c1_i32_696
  let v767 : BitVec 32 := Scalar.addi c0_i32_697 v766
  v767.toNat
def k0_dev26 (d0 : Dev nD) : Nat :=
  let c0_i32_707 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_706 : BitVec 32 := 1#32
  let v776 : BitVec 32 := Scalar.muli v6 c1_i32_706
  let v777 : BitVec 32 := Scalar.addi c0_i32_707 v776
  v777.toNat
-- ==== ReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Setup.lean ====
/-
The ring of four devices, the pieces of the buffers the kernel works on, and the values that
travel around the ring: what every other module of this proof speaks about.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option backward.proofsInPublic true

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The device `k` places further around the ring. -/
def sh (k : ℕ) (c : Dev nD) : Dev nD := ⟨(c.val + k) % 4, Nat.mod_lt _ (by decide)⟩

/-- Two steps around the ring are one step of the sum. -/
theorem sh_sh (a b : ℕ) (c : Dev nD) : sh a (sh b c) = sh ((a + b) % 4) c :=
  Fin.ext (by simp only [sh]; omega)
/-- No step at all. -/
theorem sh_zero (c : Dev nD) : sh 0 c = c := Fin.ext (by have h4 : c.val < 4 := c.isLt; simp only [sh]; omega)

/-- Up the ring in direction `h`: to the right for the first, to the left for the second. -/
abbrev up (h : Fin 2) (c : Dev nD) : Dev nD := sh (![1, 3] h) c
/-- Down the ring in direction `h`. -/
abbrev dn (h : Fin 2) (c : Dev nD) : Dev nD := sh (![3, 1] h) c
/-- Across the ring. -/
abbrev opp (c : Dev nD) : Dev nD := sh 2 c

/-- Up and down again. -/
theorem up_dn (h : Fin 2) (c : Dev nD) : up h (dn h c) = c := by revert h c; decide
/-- Down and up again. -/
theorem dn_up (h : Fin 2) (c : Dev nD) : dn h (up h c) = c := by revert h c; decide
/-- Two steps up lead across, -/
theorem up_up (h : Fin 2) (c : Dev nD) : up h (up h c) = opp c := by revert h c; decide
/-- and so do two steps down. -/
theorem dn_dn (h : Fin 2) (c : Dev nD) : dn h (dn h c) = opp c := by revert h c; decide
/-- One step up from across is one step down, -/
theorem up_opp (h : Fin 2) (c : Dev nD) : up h (opp c) = dn h c := by revert h c; decide
/-- and one step down from across is one step up. -/
theorem dn_opp (h : Fin 2) (c : Dev nD) : dn h (opp c) = up h c := by revert h c; decide
/-- Across from the next is the one before, -/
theorem opp_up (h : Fin 2) (c : Dev nD) : opp (up h c) = dn h c := by revert h c; decide
/-- and across from the one before is the next. -/
theorem opp_dn (h : Fin 2) (c : Dev nD) : opp (dn h c) = up h c := by revert h c; decide
/-- Across and back. -/
theorem opp_opp (c : Dev nD) : opp (opp c) = c := by revert c; decide

/-! ## Rectangles and pieces of buffers -/

/-- A half chunk lies in the result; -/
theorem inb_half (j h : Fin 2) (q : Dev nD) : ∀ a, (![512 * q.val + 256 * j.val, 1024 * h.val] : Fin 2 → ℕ) a + S256x1024.size a ≤ S2048x2048.size a :=
  Fin.forall_fin_two.mpr ⟨by have h4 : q.val < 4 := q.isLt; have := j.isLt; show 512 * q.val + 256 * j.val + 256 ≤ 2048; omega,
    by have := h.isLt; show 1024 * h.val + 1024 ≤ 2048; omega⟩
/-- so does a chunk; -/
theorem inb_chunk (h : Fin 2) (q : Dev nD) : ∀ a, (![512 * q.val, 1024 * h.val] : Fin 2 → ℕ) a + S512x1024.size a ≤ S2048x2048.size a :=
  Fin.forall_fin_two.mpr ⟨by have h4 : q.val < 4 := q.isLt; show 512 * q.val + 512 ≤ 2048; omega,
    by have := h.isLt; show 1024 * h.val + 1024 ≤ 2048; omega⟩
/-- a row chunk lies in the first operand; -/
theorem inb_x (q : Dev nD) : ∀ a, (![512 * q.val, 0] : Fin 2 → ℕ) a + S512x512.size a ≤ S2048x512.size a :=
  Fin.forall_fin_two.mpr ⟨by have h4 : q.val < 4 := q.isLt; show 512 * q.val + 512 ≤ 2048; omega, by show 0 + 512 ≤ 512; omega⟩
/-- so does half of one; -/
theorem inb_xs (j : Fin 2) (q : Dev nD) : ∀ a, (![512 * q.val + 256 * j.val, 0] : Fin 2 → ℕ) a + S256x512.size a ≤ S2048x512.size a :=
  Fin.forall_fin_two.mpr ⟨by have h4 : q.val < 4 := q.isLt; have := j.isLt; show 512 * q.val + 256 * j.val + 256 ≤ 2048; omega, by show 0 + 512 ≤ 512; omega⟩
/-- half of a row chunk lies in the row chunk; -/
theorem inb_xj (j : Fin 2) : ∀ a, (![256 * j.val, 0] : Fin 2 → ℕ) a + S256x512.size a ≤ S512x512.size a :=
  Fin.forall_fin_two.mpr ⟨by have := j.isLt; show 256 * j.val + 256 ≤ 512; omega, by show 0 + 512 ≤ 512; omega⟩
/-- a direction's columns lie in the second operand; -/
theorem inb_w (h : Fin 2) : ∀ a, (![0, 1024 * h.val] : Fin 2 → ℕ) a + S512x1024.size a ≤ S512x2048.size a :=
  Fin.forall_fin_two.mpr ⟨by show 0 + 512 ≤ 512; omega, by have := h.isLt; show 1024 * h.val + 1024 ≤ 2048; omega⟩
/-- half of a chunk lies in the chunk; -/
theorem inb_sub (j : Fin 2) : ∀ a, (![256 * j.val, 0] : Fin 2 → ℕ) a + S256x1024.size a ≤ S512x1024.size a :=
  Fin.forall_fin_two.mpr ⟨by have := j.isLt; show 256 * j.val + 256 ≤ 512; omega, by show 0 + 1024 ≤ 1024; omega⟩
/-- a landing slot lies in its buffer. -/
theorem inb_slot (s : Fin 12) : ∀ a, (![s.val, 0, 0] : Fin 3 → ℕ) a + S1x256x1024.size a ≤ S12x256x1024.size a := by
  revert s; decide

/-- Rows `256 j …` of chunk `q`, column half `h`. -/
abbrev rHalf (q : Dev nD) (j h : Fin 2) : Rect S2048x2048 := Rect.unit ![512 * q.val + 256 * j.val, 1024 * h.val] S256x1024.size (inb_half j h q)
/-- Chunk `q`, column half `h`. -/
abbrev rChunk (q : Dev nD) (h : Fin 2) : Rect S2048x2048 := Rect.unit ![512 * q.val, 1024 * h.val] S512x1024.size (inb_chunk h q)
/-- Row chunk `q` of the first operand. -/
abbrev rX (q : Dev nD) : Rect S2048x512 := Rect.unit ![512 * q.val, 0] S512x512.size (inb_x q)
/-- Half `j` of row chunk `q` of the first operand. -/
abbrev rXs (q : Dev nD) (j : Fin 2) : Rect S2048x512 := Rect.unit ![512 * q.val + 256 * j.val, 0] S256x512.size (inb_xs j q)
/-- Half `j` of a row chunk, within the chunk. -/
abbrev rXj (j : Fin 2) : Rect S512x512 := Rect.unit ![256 * j.val, 0] S256x512.size (inb_xj j)
/-- Column half `h` of the second operand. -/
abbrev rW (h : Fin 2) : Rect S512x2048 := Rect.unit ![0, 1024 * h.val] S512x1024.size (inb_w h)
/-- Half `j` of a chunk's rows. -/
abbrev rSub (j : Fin 2) : Rect S512x1024 := Rect.unit ![256 * j.val, 0] S256x1024.size (inb_sub j)
/-- Landing slot `s`. -/
abbrev rSlot (s : Fin 12) : Rect S12x256x1024 := Rect.unit ![s.val, 0, 0] S1x256x1024.size (inb_slot s)

abbrev accW : Memref sig .tc .vmem S2048x2048 .f32 := Memref.whole cc0_scratch0
abbrev outW : Memref sig .tc .hbm S2048x2048 .f32 := Memref.whole main_v1
abbrev xvW : Memref sig .tc .vmem S2048x512 .f32 := Memref.whole cc0_scratch1
abbrev xaW : Memref sig .tc .hbm S2048x512 .f32 := Memref.whole main_arg0
abbrev wvW : Memref sig .tc .vmem S512x2048 .f32 := Memref.whole cc0_scratch2
abbrev waW : Memref sig .tc .hbm S512x2048 .f32 := Memref.whole main_arg1
/-- The landing slots of direction `h`. -/
def slab : Fin 2 → Memref sig .tc .vmem S12x256x1024 .f32
  | 0 => Memref.whole cc0_scratch3
  | 1 => Memref.whole cc0_scratch4

abbrev accP (q : Dev nD) (j h : Fin 2) : Memref sig .tc .vmem S256x1024 .f32 := accW.slice (rHalf q j h) (fun _ => rfl)
abbrev acc5 (q : Dev nD) (h : Fin 2) : Memref sig .tc .vmem S512x1024 .f32 := accW.slice (rChunk q h) (fun _ => rfl)
abbrev outP (q : Dev nD) (j h : Fin 2) : Memref sig .tc .hbm S256x1024 .f32 := outW.slice (rHalf q j h) (fun _ => rfl)
abbrev xvP (q : Dev nD) : Memref sig .tc .vmem S512x512 .f32 := xvW.slice (rX q) (fun _ => rfl)
abbrev xaP (q : Dev nD) : Memref sig .tc .hbm S512x512 .f32 := xaW.slice (rX q) (fun _ => rfl)
abbrev slotR (h : Fin 2) (s : Fin 12) : Memref sig .tc .vmem S1x256x1024 .f32 := (slab h).slice (rSlot s) (fun _ => rfl)
abbrev slotM (h : Fin 2) (s : Fin 12) : Memref sig .tc .vmem S256x1024 .f32 := (slotR h s).squeeze S256x1024 squeezes_S1x256x1024_S256x1024

/-! ## Values -/

variable (m : (ℓ : Loc nD τ sig) → Buf (Elt F) ℓ)

abbrev V2 (F : FTy → Type) : Type := S256x1024.Idx → Elt F .f32
abbrev V5 (F : FTy → Type) : Type := S512x1024.Idx → Elt F .f32

/-- Device `d`'s columns of the first operand. -/
abbrev Xd (d : Dev nD) : S2048x512.Idx → Elt F .f32 := m ((d : Thread nD τ).loc main_arg0)
/-- Device `d`'s rows of the second operand. -/
abbrev Wd (d : Dev nD) : S512x2048.Idx → Elt F .f32 := m ((d : Thread nD τ).loc main_arg1)

def x5 (d q : Dev nD) : S512x512.Idx → Elt F .f32 := fun i => Xd m d ((rX q).emb i)
def xs (d q : Dev nD) (j : Fin 2) : S256x512.Idx → Elt F .f32 := fun i => x5 m d q ((rXj j).emb i)
def wh (d : Dev nD) (h : Fin 2) : S512x1024.Idx → Elt F .f32 := fun i => Wd m d ((rW h).emb i)

/-- Device `d`'s partial product for half `j` of chunk `q`. -/
def P2 (d q : Dev nD) (j h : Fin 2) : V2 F := k0_pay3 (xs m d q j) (wh m d h)
/-- Device `d`'s partial product for the whole of chunk `q`. -/
def P5 (d q : Dev nD) (h : Fin 2) : V5 F := k0_pay7 (x5 m d q) (wh m d h)
/-- Half `j` of a chunk's rows. -/
def sub (j : Fin 2) (V : V5 F) : V2 F := fun i => V ((rSub j).emb i)
/-- A landed block, read with its slot axis. -/
def unsq (V : V2 F) : S1x256x1024.Idx → Elt F .f32 := fun i => V ((Shape.reshapeEquiv squeezes_S1x256x1024_S256x1024.numel_eq).symm i)

/-- The first partial product of chunk `q`, from the device above. -/
def V0 (q : Dev nD) (j h : Fin 2) : V2 F := P2 m (up h q) q j h
/-- Chunk `q`'s own partial product added to it. -/
def VB (q : Dev nD) (j h : Fin 2) : V2 F := k0_pay13 (sub j (P5 m q q h)) (unsq (V0 m q j h))
/-- The partial product from across the ring. -/
def VD (q : Dev nD) (j h : Fin 2) : V2 F := sub j (P5 m (opp q) q h)
/-- The finished half chunk: all four partial products added, then cut off at zero. -/
def VR (q : Dev nD) (j h : Fin 2) : V2 F := k0_pay17 (sub j (P5 m (dn h q) q h)) (unsq (VB m q j h)) (unsq (VD m q j h))

/-! ## The transfers, by direction and slot

Slot `s` is `2 * step + j`: six steps, two halves. -/

abbrev stepOf (s : Fin 12) : Fin 6 := ⟨s.val / 2, by omega⟩
abbrev halfOf (s : Fin 12) : Fin 2 := ⟨s.val % 2, by omega⟩

/-- Whom the transfer of slot `s` in direction `h` goes to. -/
def tgt (h : Fin 2) (s : Fin 12) (c : Dev nD) : Dev nD :=
  match stepOf s with
  | 0 | 1 | 4 => dn h c
  | 2 | 3 | 5 => up h c
/-- The device whose transfer lands in slot `s` of device `e`. -/
def org (h : Fin 2) (s : Fin 12) (e : Dev nD) : Dev nD :=
  match stepOf s with
  | 0 | 1 | 4 => up h e
  | 2 | 3 | 5 => dn h e
/-- The sender to the target of a transfer is the device itself, -/
theorem org_tgt (h : Fin 2) (s : Fin 12) (c : Dev nD) : org h s (tgt h s c) = c := by revert h s c; decide
/-- and the target of the sender too. -/
theorem tgt_org (h : Fin 2) (s : Fin 12) (c : Dev nD) : tgt h s (org h s c) = c := by revert h s c; decide

/-- What the transfer reads: pieces of the accumulator, in the last step a landed slot. -/
def srcM (h : Fin 2) (s : Fin 12) (c : Dev nD) : Memref sig .tc .vmem S256x1024 .f32 :=
  match stepOf s with
  | 0 => accP (dn h c) (halfOf s) h
  | 1 => accP c (halfOf s) h
  | 2 => accP (opp c) (halfOf s) h
  | 3 => accP (up h c) (halfOf s) h
  | 4 => accP (up h c) (halfOf s) h
  | 5 => slotM h ⟨6 + s.val % 2, by omega⟩
/-- The value it carries. -/
def srcV (h : Fin 2) (s : Fin 12) (c : Dev nD) : V2 F :=
  match stepOf s with
  | 0 => V0 m (dn h c) (halfOf s) h
  | 1 => VB m c (halfOf s) h
  | 2 => VD m (opp c) (halfOf s) h
  | 3 => VR m (up h c) (halfOf s) h
  | 4 => VR m (up h c) (halfOf s) h
  | 5 => VR m c (halfOf s) h
/-- The share of the source the transfer holds while it runs. -/
def srcQ (s : Fin 12) : PosShare TreeShare :=
  match stepOf s with
  | 0 | 1 | 2 => fullShare
  | 3 => fullShare.left
  | 4 => fullShare.right.left
  | 5 => fullShare.left
/-- The value that lands in slot `s` of device `e`. -/
def rcvV (h : Fin 2) (s : Fin 12) (e : Dev nD) : V2 F :=
  match stepOf s with
  | 0 => V0 m e (halfOf s) h
  | 1 => VB m (up h e) (halfOf s) h
  | 2 => VD m (up h e) (halfOf s) h
  | 3 => VR m e (halfOf s) h
  | 4 => VR m (opp e) (halfOf s) h
  | 5 => VR m (dn h e) (halfOf s) h

/-- What a transfer carries is what lands. -/
theorem srcV_eq (h : Fin 2) (s : Fin 12) (c : Dev nD) : srcV m h s c = rcvV m h s (tgt h s c) := by
  unfold srcV rcvV tgt
  generalize halfOf s = j
  generalize stepOf s = t
  revert t
  intro t
  fin_cases t
  · rfl
  · show VB m c j h = VB m (up h (dn h c)) j h; rw [up_dn]
  · show VD m (opp c) j h = VD m (up h (up h c)) j h; rw [up_up]
  · rfl
  · show VR m (up h c) j h = VR m (opp (dn h c)) j h; rw [opp_dn]
  · show VR m c j h = VR m (dn h (up h c)) j h; rw [dn_up]

/-! ## The copies out, by index: `4 * t + 2 * j + h` -/

abbrev oT (k : Fin 16) : Fin 4 := ⟨k.val / 4, by omega⟩
abbrev oJ (k : Fin 16) : Fin 2 := ⟨k.val / 2 % 2, by omega⟩
abbrev oH (k : Fin 16) : Fin 2 := ⟨k.val % 2, by omega⟩
/-- The chunk the copy writes. -/
def oC (k : Fin 16) (c : Dev nD) : Dev nD :=
  match oT k with
  | 0 => up (oH k) c
  | 1 => c
  | 2 => opp c
  | 3 => dn (oH k) c
/-- What it reads. -/
def oM (k : Fin 16) (c : Dev nD) : Memref sig .tc .vmem S256x1024 .f32 :=
  match oT k with
  | 0 => accP (up (oH k) c) (oJ k) (oH k)
  | 1 => slotM (oH k) ⟨6 + k.val / 2 % 2, by omega⟩
  | 2 => slotM (oH k) ⟨8 + k.val / 2 % 2, by omega⟩
  | 3 => slotM (oH k) ⟨10 + k.val / 2 % 2, by omega⟩
/-- The share of it the copy holds while it runs. -/
def oQ (k : Fin 16) : PosShare TreeShare :=
  match oT k with
  | 0 => fullShare.right.right
  | 1 => fullShare.right
  | 2 | 3 => fullShare
/-- The value it carries. -/
def oV (k : Fin 16) (c : Dev nD) : V2 F := VR m (oC k c) (oJ k) (oH k)

/-- The chunk the `k`-th copy in reads, for `k` from one on. -/
def iC (k : Fin 4) (c : Dev nD) : Dev nD :=
  match k with
  | 0 => sh 3 c
  | 1 => sh 1 c
  | 2 => sh 2 c
  | 3 => sh 0 c

end Cert.RingMM

end
-- ==== Proof.Sched.lean ====
/-
The protocol: for every semaphore of a device, who raises it, by how much, and what the raise
hands to the device that waits for it.
-/
module

public import proofs.«01_k».proof.Proof.Setup

@[expose] public section

set_option backward.proofsInPublic true

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Semaphores and cells -/

/-- The barrier semaphore. -/
abbrev barS : Sem sig := (SemArray.scalar (sig.barrier 0 rfl) : Sems sig S_).sem

/-- Index of the semaphore a send of slot `s` in direction `h` raises when its source is read; -/
abbrev sS (h : Fin 2) (s : Fin 12) : Fin 69 := ⟨24 * h.val + s.val, by omega⟩
/-- of the one raised where it lands; -/
abbrev rS (h : Fin 2) (s : Fin 12) : Fin 69 := ⟨24 * h.val + 12 + s.val, by omega⟩
/-- of the `k`-th copy out; -/
abbrev oS (k : Fin 16) : Fin 69 := ⟨48 + k.val, by omega⟩
/-- of the `k`-th copy in. -/
abbrev iS (k : Fin 5) : Fin 69 := ⟨64 + k.val, by omega⟩

/-- All semaphores of a device: the barrier, then the rest by index. -/
abbrev csem : Option (Fin 69) → SemLoc sig
  | none => .reg barS
  | some k => .dma k
abbrev osem : Fin 69 → SemLoc sig := fun k => .dma k
abbrev kcell (ck : Dev nD × Option (Fin 69)) : GSem nD τ sig := ((ck.1 : Thread nD τ), csem ck.2)

/-- Units a transfer of a half chunk raises its semaphores by; -/
def N2 : ℕ := (accP 0 0 0).view.dmaCredit
/-- the second operand's copy in; -/
def NW : ℕ := wvW.view.dmaCredit
/-- a row chunk's copy in. -/
def NX : ℕ := (xvP 0).view.dmaCredit
def amt : Option (Fin 69) → ℕ
  | none => 1
  | some k => if k.val < 64 then N2 else if k.val = 64 then NW else NX

/-- A half chunk's transfer raises by something; -/
theorem N2_pos : 0 < N2 := View.dmaCredit_pos _ (by decide)
/-- so does the second operand's copy in; -/
theorem NW_pos : 0 < NW := View.dmaCredit_pos _ (by decide)
/-- so does a row chunk's. -/
theorem NX_pos : 0 < NX := View.dmaCredit_pos _ (by decide)
/-- Every raise is by something. -/
theorem amt_pos (k : Option (Fin 69)) : 0 < amt k := by
  cases k with
  | none => exact Nat.one_pos
  | some k =>
    show 0 < (if k.val < 64 then N2 else if k.val = 64 then NW else NX)
    split
    · exact N2_pos
    · split
      · exact NW_pos
      · exact NX_pos

/-! ## What each raise hands over -/

/-- Landing slot `s` of direction `h` on device `e`, whatever it holds. -/
def Slot (e : Dev nD) (h : Fin 2) (s : Fin 12) : sProp 𝕄 := iprop(∃ V, ownsTc (Val := Elt F) e (slotM h s) fullShare V)

def sendPay (c : Dev nD) (h : Fin 2) (s : Fin 12) : sProp 𝕄 := ownsTc c (srcM h s c) (srcQ s) (srcV m h s c)
def recvPay (c : Dev nD) (h : Fin 2) (s : Fin 12) : sProp 𝕄 := ownsTc c (slotM h s) fullShare (rcvV m h s c)
def outPay (c : Dev nD) (k : Fin 16) : sProp 𝕄 :=
  iprop(ownsTc c (outP (oC k c) (oJ k) (oH k)) fullShare (oV m k c) ∗ ownsTc c (oM k c) (oQ k) (oV m k c))
def xPay (c : Dev nD) (q : Dev nD) : sProp 𝕄 :=
  iprop(ownsTc c (xvP q) fullShare (x5 m c q) ∗ ownsTc c (xaP q) fullShare (x5 m c q))
def wPay (c : Dev nD) : sProp 𝕄 :=
  iprop(ownsTc c wvW fullShare (Wd m c) ∗ ownsTc c waW fullShare (Wd m c))
def inPay (c : Dev nD) : Fin 5 → sProp 𝕄
  | 0 => wPay m c
  | 1 => xPay m c (iC 0 c)
  | 2 => xPay m c (iC 1 c)
  | 3 => xPay m c (iC 2 c)
  | 4 => xPay m c (iC 3 c)

/-- The slots of device `e` that a neighbour may fill, given to it by `e`'s signal: the steps going
    down the ring in direction `a`, up the ring in direction `b`. -/
def give (e : Dev nD) (a b : Fin 2) : sProp 𝕄 :=
  iprop(Slot (F := F) e a 0 ∗ Slot e a 1 ∗ Slot e a 2 ∗ Slot e a 3 ∗ Slot e a 8 ∗ Slot e a 9
    ∗ Slot e b 4 ∗ Slot e b 5 ∗ Slot e b 6 ∗ Slot e b 7 ∗ Slot e b 10 ∗ Slot e b 11)
def barPay (c : Dev nD) : Bool → sProp 𝕄
  | true => give (sh 1 c) 1 0
  | false => give (sh 3 c) 0 1

/-- What the raise of a device's semaphore of index `k` hands it. -/
def payD (c : Dev nD) (k : Fin 69) : sProp 𝕄 :=
  if h0 : k.val < 12 then sendPay m c 0 ⟨k.val, h0⟩
  else if h1 : k.val < 24 then recvPay m c 0 ⟨k.val - 12, by omega⟩
  else if h2 : k.val < 36 then sendPay m c 1 ⟨k.val - 24, by omega⟩
  else if h3 : k.val < 48 then recvPay m c 1 ⟨k.val - 36, by omega⟩
  else if h4 : k.val < 64 then outPay m c ⟨k.val - 48, by omega⟩
  else inPay m c ⟨k.val - 64, by omega⟩

/-- What a send hands back, -/
theorem payD_send (c : Dev nD) (h : Fin 2) (s : Fin 12) : payD m c (sS h s) = sendPay m c h s := by
  fin_cases h <;> fin_cases s <;> rfl
/-- what a landing hands over, -/
theorem payD_recv (c : Dev nD) (h : Fin 2) (s : Fin 12) : payD m c (rS h s) = recvPay m c h s := by
  fin_cases h <;> fin_cases s <;> rfl
/-- what a copy out hands back, -/
theorem payD_out (c : Dev nD) (k : Fin 16) : payD m c (oS k) = outPay m c k := by
  fin_cases k <;> rfl
/-- what a copy in hands over. -/
theorem payD_in (c : Dev nD) (k : Fin 5) : payD m c (iS k) = inPay m c k := by
  fin_cases k <;> rfl

def payS (c : Dev nD) (d : Bool) : SemLoc sig → sProp 𝕄
  | .reg _ => barPay c d
  | .dma k => payD m c k

def dutS : SemLoc sig → Finset Bool
  | .reg _ => Finset.univ
  | .dma _ => {false}
def amtS : SemLoc sig → ℕ
  | .reg _ => 1
  | .dma k => amt (some k)

/-- Every semaphore has one round; the barrier's is raised by both neighbours, any other's once. -/
def ringRd : Rounds.Schedule (GSem nD τ sig) Bool 𝕄 where
  duties g r := if r = 0 ∧ g.1.2 = .tc then dutS g.2 else ∅
  unitless _ := False
  amount g _ _ := amtS g.2
  payload g _ d := payS m g.1.1 d g.2
  amount_pos g _ _ _ := by
    cases g.2 with
    | reg _ => exact Nat.one_pos
    | dma k => exact amt_pos (some k)

omit [FloatOps F] in
instance Slot_storable (e : Dev nD) (h : Fin 2) (s : Fin 12) : BI.Storable (upEmb : UEmb _ 𝕄) (Slot (F := F) e h s) := by
  unfold Slot; infer_instance
omit [FloatOps F] in
instance barPay_storable (c : Dev nD) (d : Bool) : BI.Storable (upEmb : UEmb _ 𝕄) (barPay (F := F) c d) := by
  cases d <;> (unfold barPay give; infer_instance)
instance inPay_storable (c : Dev nD) (k : Fin 5) : BI.Storable (upEmb : UEmb _ 𝕄) (inPay m c k) := by
  fin_cases k <;> (show BI.Storable upEmb _; unfold inPay; first | (unfold wPay; infer_instance) | (unfold xPay; infer_instance))
instance payD_storable (c : Dev nD) (k : Fin 69) : BI.Storable (upEmb : UEmb _ 𝕄) (payD m c k) := by
  unfold payD
  (repeat' split) <;> first | infer_instance | (unfold sendPay; infer_instance) | (unfold recvPay; infer_instance) | (unfold outPay; infer_instance)

instance ringRd_payload_storable (g : GSem nD τ sig) (r : ℕ) (d : Bool) :
    BI.Storable (upEmb : UEmb _ 𝕄) ((ringRd m).payload g r d) := by
  show BI.Storable upEmb (payS m g.1.1 d g.2)
  cases g.2 with
  | reg _ => exact barPay_storable _ _
  | dma k => exact payD_storable m _ k

section Facts
variable (c : Dev nD) (k : Fin 69)

/-- The barrier is raised by both neighbours, -/
theorem duties_bar : (ringRd m).duties (kcell (c, none)) 0 = Finset.univ := by
  dsimp only [ringRd]; rw [if_pos ⟨rfl, rfl⟩]; rfl
/-- every other semaphore by one transfer, -/
theorem duties_dma : (ringRd m).duties (kcell (c, some k)) 0 = {false} := by
  dsimp only [ringRd]; rw [if_pos ⟨rfl, rfl⟩]; rfl
/-- and none a second time. -/
theorem duties_later (g : GSem nD τ sig) : ∀ r, 1 ≤ r → (ringRd m).duties g r = ∅ :=
  fun r hr => if_neg fun h => by omega
/-- By how much a semaphore is raised each time. -/
theorem amount_at (k : Option (Fin 69)) (d : Bool) : (ringRd m).amount (kcell (c, k)) 0 d = amt k := by
  cases k <;> rfl
/-- The barrier is waited for at two, -/
theorem expect_bar : (ringRd m).expect (kcell (c, none)) 0 = 2 := by
  unfold Schedule.expect Schedule.amountOf
  rw [duties_bar, Finset.sum_congr rfl fun d _ => amount_at m c none d, Finset.sum_const, Finset.card_univ, Fintype.card_bool]; rfl
/-- another semaphore at its one transfer's amount. -/
theorem expect_dma : (ringRd m).expect (kcell (c, some k)) 0 = amt (some k) := by
  unfold Schedule.expect Schedule.amountOf; rw [duties_dma, Finset.sum_singleton, amount_at]
/-- What a transfer hands over, -/
theorem payload_dma (d : Bool) : (ringRd m).payload (kcell (c, some k)) 0 d = payD m c k := rfl
/-- and a signal. -/
theorem payload_bar (d : Bool) : (ringRd m).payload (kcell (c, none)) 0 d = barPay c d := rfl

/-- The wait at the barrier yields what both signals hand over; -/
theorem rest_bar : bigSep ((ringRd m).duties (kcell (c, none)) 0 \ ∅) (fun d => (ringRd m).payload (kcell (c, none)) 0 d)
    = iprop(barPay c false ∗ barPay c true) := by
  rw [Finset.sdiff_empty, duties_bar, bigSep_univ_eq_bigSepL [false, true] (by decide) (by decide), bigSepL_cons_cons, bigSepL_singleton]
  rfl
/-- any other wait what its one transfer does. -/
theorem rest_dma : bigSep ((ringRd m).duties (kcell (c, some k)) 0 \ ∅) (fun d => (ringRd m).payload (kcell (c, some k)) 0 d) = payD m c k := by
  rw [Finset.sdiff_empty, duties_dma, bigSep_singleton]; rfl

end Facts

/-! ## Debts and levels -/

/-- A raise a device owes another: how far around the ring, and of which semaphore. -/
abbrev Pay : Type := Fin 4 × Option (Fin 69)

/-- The raise the transfer of slot `s` in direction `h` owes. -/
abbrev payOf (h : Fin 2) (s : Fin 12) : Pay := (tgt h s 0, some (rS h s))

/-- All a device owes, in program order. -/
def pays : List Pay :=
  [(3, none), (1, none), payOf 0 0, payOf 1 0, payOf 0 1, payOf 1 1, payOf 0 4, payOf 1 4, payOf 0 5, payOf 1 5,
   payOf 0 2, payOf 1 2, payOf 0 3, payOf 1 3, payOf 0 6, payOf 1 6, payOf 0 8, payOf 1 8, payOf 0 7, payOf 1 7,
   payOf 0 9, payOf 1 9, payOf 0 10, payOf 1 10, payOf 0 11, payOf 1 11]

/-- What the listed raises come to. -/
def owed (c : Dev nD) (P : List Pay) : CellTallies nD τ sig Unit :=
  P.foldr (fun p O => O + tallyAt (kcell (sh p.1.val c, p.2)) () (amt p.2)) 0

/-- What is owed, the next raise apart. -/
theorem owed_cons (c : Dev nD) (p : Pay) (P : List Pay) :
    owed c (p :: P) = owed c P + tallyAt (kcell (sh p.1.val c, p.2)) () (amt p.2) := rfl

/-- The target of a transfer is as far around the ring for every device. -/
theorem sh_tgt (h : Fin 2) (s : Fin 12) (c : Dev nD) : sh (tgt h s 0).val c = tgt h s c := by revert h s c; decide

def L (g : GSem nD τ sig) : Finset Unit := if g.1.2 = .tc then {()} else ∅

/-- The barrier comes before every landing, a landing before those of the steps that read it. -/
def lvS : SemLoc sig → ℕ
  | .reg _ => 1
  | .dma k =>
    let n := k.val % 24
    if 48 ≤ k.val ∨ n < 12 then 0 else if n < 14 then 2 else if n < 18 then 3 else if n < 22 then 4 else 5
def lv (g : GSem nD τ sig) (_ : Unit) : ℕ := lvS g.2

/-- Only the main threads wait, -/
theorem L_of_ne (g : GSem nD τ sig) (h : g.1.2 ≠ .tc) : L g = ∅ := if_neg h
/-- each in one way. -/
theorem L_tc (c : Dev nD) (sm : SemLoc sig) : L ((c : Thread nD τ), sm) = {()} := if_pos rfl

/-- What is owed is owed to a cell of the list. -/
theorem owed_pos (c : Dev nD) {g : GSem nD τ sig} {u : Unit} : ∀ {P : List Pay}, 0 < owed c P g u →
    ∃ p ∈ P, g = kcell (sh p.1.val c, p.2)
  | [], h => absurd h (Nat.lt_irrefl 0)
  | p :: P, h => by
    rw [owed_cons, Pi.add_apply, Finsupp.add_apply] at h
    by_cases h1 : 0 < owed c P g u
    · obtain ⟨p', hp, e⟩ := owed_pos c h1
      exact ⟨p', List.mem_cons_of_mem _ hp, e⟩
    · rw [tallyAt_apply] at h
      by_cases h2 : g = kcell (sh p.1.val c, p.2) ∧ u = ()
      · exact ⟨p, List.mem_cons_self, h2.1⟩
      · rw [if_neg h2] at h; omega

omit [FloatOps F] in
/-- A wait is allowed while everything still owed is of a higher level. -/
theorem mayWait (c : Dev nD) (sm : SemLoc sig) (P : List Pay) (h : ∀ p ∈ P, lvS sm < lvS (csem p.2)) :
    (levAts L lv : sProp 𝕄) ⊢ MayWait (c : Thread nD τ) sm () (owed c P) :=
  MayOwe.of_cut (L := L) (lev := lv) (lvS sm)
    (fun p hp => by rw [Finset.mem_singleton.mp hp, L_tc]; exact Finset.mem_singleton_self _)
    (fun g u hg => by obtain ⟨p, _, rfl⟩ := owed_pos c hg; exact Finset.mem_singleton_self _)
    (fun p hp => by rw [Finset.mem_singleton.mp hp]; exact le_rfl)
    (fun g u hg => by obtain ⟨p, hp, rfl⟩ := owed_pos c hg; exact h p hp)

/-! ## Records every device shares -/

/-- Every cell's invariant, that every cell has reached its round, and the levels. -/
def INV (K : Dev nD × Option (Fin 69) → ℕ) : sProp 𝕄 :=
  iprop((bigSep Finset.univ fun ck : Dev nD × Option (Fin 69) => cellInv ER (ringRd m) (K ck) (kcell ck))
    ∗ (bigSep Finset.univ fun ck : Dev nD × Option (Fin 69) => reached ER (kcell ck) 0) ∗ levAts L lv)

instance INV_persistent (K : Dev nD × Option (Fin 69) → ℕ) : BI.Persistent (INV m K) := by unfold INV; infer_instance

variable (K : Dev nD × Option (Fin 69) → ℕ)

/-- Of what is shared: a cell's invariant, -/
theorem INV_inv (ck : Dev nD × Option (Fin 69)) : INV m K ⊢ cellInv ER (ringRd m) (K ck) (kcell ck) := by
  have h : (bigSep Finset.univ fun ck : Dev nD × Option (Fin 69) => (cellInv ER (ringRd m) (K ck) (kcell ck) : sProp 𝕄)) ⊢ cellInv ER (ringRd m) (K ck) (kcell ck) :=
    bigSep_elim (Finset.mem_univ ck)
  unfold INV; iintro ⟨H, -, -⟩; iapply h; iexact H
/-- that its round has begun, -/
theorem INV_reached (ck : Dev nD × Option (Fin 69)) : INV m K ⊢ reached ER (kcell ck) 0 := by
  have h : (bigSep Finset.univ fun ck : Dev nD × Option (Fin 69) => (reached ER (kcell ck) 0 : sProp 𝕄)) ⊢ reached ER (kcell ck) 0 :=
    bigSep_elim (Finset.mem_univ ck)
  unfold INV; iintro ⟨-, H, -⟩; iapply h; iexact H
/-- and the levels. -/
theorem INV_lev : INV m K ⊢ levAts L lv := by
  unfold INV; iintro ⟨-, -, H⟩; iexact H

/-! ## A device's own tokens -/

/-- A raise of the device's semaphore `k` under way: the credit to wait with and the place in its round. -/
def Fly (c : Dev nD) (k : Fin 69) : sProp 𝕄 :=
  iprop(cred (tallyAt (kcell (c, some k)) () (amt (some k))) ∗ atPos ER (kcell (c, some k)) 0 ∅ 0)
/-- The right to a local copy onto semaphore `k`. -/
def LocTok (c : Dev nD) (k : Fin 69) : sProp 𝕄 :=
  iprop(dutyTok ER (kcell (c, some k)) 0 false ∗ atPos ER (kcell (c, some k)) 0 ∅ 0)
/-- The right to the transfer of slot `s` in direction `h`. -/
def SendTok (c : Dev nD) (h : Fin 2) (s : Fin 12) : sProp 𝕄 :=
  iprop(LocTok (F := F) c (sS h s) ∗ dutyTok ER (kcell (tgt h s c, some (rS h s))) 0 false)
/-- Semaphores already waited for. -/
def Done (c : Dev nD) : List (Option (Fin 69)) → sProp 𝕄
  | [] => iprop(emp)
  | k :: l => iprop(atPos ER (kcell (c, k)) 1 ∅ 0 ∗ Done c l)
/-- What is still owed and what was waited for. -/
def St (c : Dev nD) (P : List Pay) (l : List (Option (Fin 69))) : sProp 𝕄 :=
  iprop((∃ W, owes (c : Thread nD τ) (owed c P) W) ∗ Done (F := F) c l)

end Cert.RingMM

end
-- ==== Proof.Steps.lean ====
/-
One rule for each kind of effect of the kernel, in terms of the protocol's tokens.
-/
module

public import proofs.«01_k».proof.Proof.Sched

@[expose] public section

set_option backward.proofsInPublic true

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 69) → ℕ)
/-- No loop of the kernel needs a bound. -/
abbrev 𝒱₀ : Variants := Variants.none

/-- Running a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Transfers -/

/-- The right to the transfer of slot `s` in direction `h`, its landing slot in hand. -/
def Ready (c : Dev nD) (h : Fin 2) (s : Fin 12) : sProp 𝕄 :=
  iprop(SendTok (F := F) c h s ∗ Slot (F := F) (tgt h s c) h s)

/-- A transfer to a neighbour: its source, for the time it runs, and the landing slot. -/
theorem step_send {α : Type} (c : Dev nD) {Q : α → sProp 𝕄} (h : Fin 2) (s : Fin 12) {d : Dev nD} {src dst : Memref sig .tc .vmem S256x1024 .f32} {a b : SemLoc sig}
    {hsc : dst.view.ref.isScScratch = false} {hsrc : src.view.WordExact} {hdst : dst.view.WordExact}
    {hsem : DmaTarget.Typed (nD := nD) (τ := τ) (p := .tc) Space.vmem b (.remote (Dev.tc d) dst a hsc)}
    {k : PUnit → Prog (TpuEff nD τ sig (Elt F) Λ₀ .tc) α} (P : List Pay) (l : List (Option (Fin 69)))
    (hs : src = srcM h s c) (hd : d = tgt h s c) (ht : dst = slotM h s) (ha : a = .dma (sS h s)) (hb : b = .dma (rS h s))
    (hN : (slotM h s).view.dmaCredit = N2) :
    INV m K ⊢ iprop(Ready (F := F) c h s -∗ ownsTc c (srcM h s c) (srcQ s) (srcV m h s c) -∗ St (F := F) c (payOf h s :: P) l
      -∗ ((Fly (F := F) c (sS h s) ∗ St (F := F) c P l) -∗ WP c (k ⟨⟩) Q)
      -∗ WP c (.op (.enqueueDma src (.remote (Dev.tc d) dst a hsc) b hsrc hdst hsem) k) Q) := by
  subst hs hd ht ha hb
  have hamt : ∀ i, amt (some (sS h i)) = N2 := fun i => if_pos (by show 24 * h.val + i.val < 64; have := h.isLt; have := i.isLt; omega)
  have hamr : ∀ i, amt (some (rS h i)) = N2 := fun i => if_pos (by show 24 * h.val + 12 + i.val < 64; have := h.isLt; have := i.isLt; omega)
  unfold Ready SendTok LocTok Slot St Fly
  iintro #HI ⟨⟨⟨Ht, Hat⟩, Ht'⟩, ⟨%V, Hd⟩⟩ Hs ⟨⟨%W, HO⟩, HD⟩ Hk
  unfold ownsTc owns
  icases Hd with ⟨%fd, -, Hd⟩
  icases Hs with ⟨%fs, %hfs, Hs⟩
  iapply (Rounds.wp_send_pointsTo 𝒱₀ ER (ringRd m) (c : Thread nD τ) none (κ₁ := K (c, some (sS h s))) (κ₂ := K (tgt h s c, some (rS h s)))
    (r₁ := 0) (r₂ := 0) (d₁ := false) (d₂ := false) (fd := fd) (fs := fs)
    (by rw [duties_dma]; exact Finset.mem_singleton_self _) (by rw [duties_dma]; exact Finset.mem_singleton_self _)
    () () N2 (show (slotM h s).view.amount (.dma (rS h s)) = N2 from hN) ((amount_at m c (some (sS h s)) false).trans (hamt s)) ((amount_at m _ (some (rS h s)) false).trans (hamr s))
    (owed c P) (O₀ := owed c (payOf h s :: P)) (by rw [owed_cons, sh_tgt, hamr s]; rfl) (W := W)
    (by
      rw [payload_dma, payD_send]; unfold sendPay ownsTc owns
      iintro H; iexists fs; isplitr; · (ipureintro; exact hfs)
      iexact H)
    (by
      rw [payload_dma, payD_recv]; unfold recvPay ownsTc owns
      iintro H; iexists _; isplitr
      swap; · iexact H
      ipureintro
      rw [View.read_write_univ, hfs, srcV_eq]; rfl)) $$ [Hs Hd HO Ht Ht']
  · isplitr; · iapply (INV_inv m K (c, some (sS h s))); iexact HI
    isplitr; · iapply (INV_inv m K (tgt h s c, some (rS h s))); iexact HI
    isplitl [Hs]; · iexact Hs
    isplitl [Hd]; · iexact Hd
    isplitl [HO]; · iexact HO
    isplitl [Ht]; · iexact Ht
    isplitr; · iapply (INV_reached m K (c, some (sS h s))); iexact HI
    isplitl [Ht']; · iexact Ht'
    iapply (INV_reached m K (tgt h s c, some (rS h s))); iexact HI
  iintro ⟨Hc, HO⟩
  iapply Hk
  rw [hamt s]
  isplitl [Hc Hat]
  · isplitl [Hc]; · iexact Hc
    iexact Hat
  isplitl [HO]
  · iexists W; iexact HO
  iexact HD

/-- A copy within the device. -/
theorem step_copy {α : Type} (c : Dev nD) {Q : α → sProp 𝕄} (i : Fin 69) {sp sp' : Space} {s : Shape} {e : EltTy} {src src' : Memref sig .tc sp s e} {dst dst' : Memref sig .tc sp' s e} {b : SemLoc sig}
    {hsrc : src.view.WordExact} {hdst : dst.view.WordExact}
    {hsem : DmaTarget.Typed (nD := nD) (τ := τ) (p := .tc) sp b (.here dst)}
    {k : PUnit → Prog (TpuEff nD τ sig (Elt F) Λ₀ .tc) α} {q : PosShare TreeShare} {X : s.Idx → Elt F e}
    (hs : src = src') (ht : dst = dst') (hb : b = .dma i) (hN : dst'.view.dmaCredit = amt (some i))
    (hpay : payD m c i = iprop(ownsTc c dst' fullShare X ∗ ownsTc c src' q X)) :
    INV m K ⊢ iprop(LocTok (F := F) c i -∗ ownsTc c src' q X -∗ (∃ V, ownsTc (Val := Elt F) c dst' fullShare V)
      -∗ (Fly (F := F) c i -∗ WP c (k ⟨⟩) Q)
      -∗ WP c (.op (.enqueueDma src (.here dst) b hsrc hdst hsem) k) Q) := by
  subst hs ht hb
  unfold LocTok Fly
  iintro #HI ⟨Ht, Hat⟩ Hs ⟨%V, Hd⟩ Hk
  unfold ownsTc owns
  icases Hd with ⟨%fd, -, Hd⟩
  icases Hs with ⟨%fs, %hfs, Hs⟩
  iapply (Rounds.wp_copy_pointsTo 𝒱₀ ER (ringRd m) (c : Thread nD τ) none (κ := K (c, some i))
    (r := 0) (d := false) (fd := fd) (fs := fs)
    (by rw [duties_dma]; exact Finset.mem_singleton_self _) () (amt (some i)) (show dst.view.amount (.dma i) = amt (some i) from hN) (amount_at m c (some i) false)
    (by
      rw [payload_dma, hpay]; unfold ownsTc owns
      iintro ⟨H, H'⟩
      isplitl [H]
      · iexists _; isplitr
        swap; · iexact H
        ipureintro
        rw [View.read_write_univ, hfs]
      · iexists fs; isplitr; · (ipureintro; exact hfs)
        iexact H')) $$ [Hs Hd Ht]
  · isplitr; · iapply (INV_inv m K (c, some i)); iexact HI
    isplitl [Hs]; · iexact Hs
    isplitl [Hd]; · iexact Hd
    isplitl [Ht]; · iexact Ht
    iapply (INV_reached m K (c, some i)); iexact HI
  iintro Hc
  iapply Hk
  isplitl [Hc]; · iexact Hc
  iexact Hat

/-- The wait for a raise under way: its payload. -/
theorem step_wait {α : Type} (c : Dev nD) {Q : α → sProp 𝕄} (i : Fin 69) {sp sp' : Space} {s : Shape} {e : EltTy} {src : Memref sig .tc sp s e} {dst : Memref sig .tc sp' s e}
    {b : DmaSem sig} {hsrc : src.view.WordExact} {hdst : dst.view.WordExact}
    {k : PUnit → Prog (TpuEff nD τ sig (Elt F) Λ₀ .tc) α} (P : List Pay) (l : List (Option (Fin 69))) {R : sProp 𝕄}
    (hb : b = i) (hN : dst.view.dmaCredit = amt (some i)) (hpay : payD m c i = R) (hlv : ∀ p ∈ P, lvS (.dma i : SemLoc sig) < lvS (csem p.2)) :
    INV m K ⊢ iprop(Fly (F := F) c i -∗ St (F := F) c P l
      -∗ ((R ∗ St (F := F) c P (some i :: l)) -∗ WP c (k ⟨⟩) Q)
      -∗ WP c (.op (.waitDma2 b src dst hsrc hdst) k) Q) := by
  subst hb hpay
  unfold Fly St
  iintro #HI ⟨Hc, Hat⟩ ⟨⟨%W, HO⟩, HD⟩ Hk
  rw [← hN]
  iapply (Rounds.wp_wait_rest_token 𝒱₀ ER (ringRd m) (c : Thread nD τ) none (κ := K (c, some b))
      (wpE_waitDma2_eq 𝒱₀ (c : Thread nD τ) none Set.univ) (Set.mem_univ _) () (O := owed c P) (W := W) (R := 0) (m := 0) (T := ∅)
      (by rw [Nat.zero_add]; exact hN.trans (expect_dma m c b).symm)) $$ [Hc HO Hat]
  · isplitr; · iapply (INV_inv m K (c, some b)); iexact HI
    isplitl [Hc]; · iexact Hc
    isplitl [HO]; · iexact HO
    isplitr; · iapply (mayWait (F := F) c (.dma b) P hlv); iapply (INV_lev m K); iexact HI
    iexact Hat
  iintro ⟨HO, Hat, -, Hpay⟩
  ihave Hp := (Entails.of_eq (rest_dma m c b)) $$ Hpay
  iapply Hk
  isplitl [Hp]; · iexact Hp
  isplitl [HO]
  · iexists _; iexact HO
  iapply (show iprop(atPos ER (kcell (c, some b)) 1 ∅ 0 ∗ Done (F := F) c l) ⊢ Done (F := F) c (some b :: l) from .rfl)
  isplitl [Hat]; · iexact Hat
  iexact HD

/-! ## Loads and stores -/

/-- A load of a rectangle within one that is owned. -/
theorem step_load {α : Type} (c : Dev nD) {Q : α → sProp 𝕄} {cs : CoreSpace} {s : Shape} {e : EltTy} (mm : Memref sig .tc cs s e) (r : Rect s) (hr : ∀ a, r.stride a = 1)
    {o o' z : Fin s.rank → ℕ} {h : ∀ a, o a + z a ≤ s.size a} (h' : ∀ a, o' a + z a ≤ s.size a) (ho : o = o')
    (em : (Rect.unit o' z h').shape.Idx → r.shape.Idx) (he : ∀ i, r.emb (em i) = (Rect.unit o' z h').emb i)
    {hl : mm.view.LoadsAt (Rect.unit o z h).toLoadRect} {q : PosShare TreeShare} {X : r.shape.Idx → Elt F e}
    {k : ((Rect.unit o' z h').shape.Idx → Elt F e) → Prog (TpuEff nD τ sig (Elt F) Λ₀ .tc) α} :
    ownsTc c (mm.slice r hr) q X ⊢ iprop((ownsTc c (mm.slice r hr) q X -∗ WP c (k fun i => X (em i)) Q)
      -∗ WP c (.op (.load mm (Rect.unit o z h).toLoadRect hl) k) Q) := by
  subst ho
  unfold ownsTc owns
  iintro ⟨%f, %hf, H⟩ Hk
  have hsub : (mm.access (Rect.unit o z h)).set ⊆ (mm.slice r hr).view.set := by
    show (mm.view.slice (Rect.unit o z h)).set ⊆ (mm.view.slice r).set
    rw [View.set_slice, View.set_slice]
    intro x hx
    obtain ⟨y, hy, rfl⟩ := Finset.mem_map.mp hx
    rw [← Rect.map_emb_univ] at hy
    obtain ⟨j, -, rfl⟩ := Finset.mem_map.mp hy
    rw [← he j, ← Rect.map_emb_univ]
    exact Finset.mem_map_of_mem _ (Finset.mem_map_of_mem _ (Finset.mem_univ _))
  iapply (wp_load_rect 𝒱₀ (c : Thread nD τ) none Set.univ (m := mm) (r := Rect.unit o z h) hsub) $$ H
  iintro H
  have hv : (mm.access (Rect.unit o z h)).read (Elt F) f = fun i => X (em i) := by
    funext i
    rw [← hf]
    show mm.view.read (Elt F) f ((Rect.unit o z h).emb i) = mm.view.read (Elt F) f (r.emb (em i))
    rw [he i]
  rw [hv]
  iapply Hk
  iexists f
  isplitr; · (ipureintro; exact hf)
  iexact H

/-- A load of a rectangle of a memref owned whole. -/
theorem step_load_all {α : Type} (c : Dev nD) {Q : α → sProp 𝕄} {cs : CoreSpace} {s : Shape} {e : EltTy} (mm : Memref sig .tc cs s e)
    {o z : Fin s.rank → ℕ} {h : ∀ a, o a + z a ≤ s.size a}
    {hl : mm.view.LoadsAt (Rect.unit o z h).toLoadRect} {q : PosShare TreeShare} {X : s.Idx → Elt F e}
    {k : ((Rect.unit o z h).shape.Idx → Elt F e) → Prog (TpuEff nD τ sig (Elt F) Λ₀ .tc) α} :
    ownsTc c mm q X ⊢ iprop((ownsTc c mm q X -∗ WP c (k fun i => X ((Rect.unit o z h).emb i)) Q)
      -∗ WP c (.op (.load mm (Rect.unit o z h).toLoadRect hl) k) Q) := by
  unfold ownsTc owns
  iintro ⟨%f, %hf, H⟩ Hk
  iapply (wp_load_rect 𝒱₀ (c : Thread nD τ) none Set.univ (m := mm) (r := Rect.unit o z h) (View.set_slice_subset _ _)) $$ H
  iintro H
  have hv : (mm.access (Rect.unit o z h)).read (Elt F) f = fun i => X ((Rect.unit o z h).emb i) := by
    funext i
    rw [← hf]; rfl
  rw [hv]
  iapply Hk
  iexists f
  isplitr; · (ipureintro; exact hf)
  iexact H

/-- A store to a rectangle that is owned. -/
theorem step_store {α : Type} (c : Dev nD) {Q : α → sProp 𝕄} {cs : CoreSpace} {s : Shape} {e : EltTy} (mm : Memref sig .tc cs s e)
    {o o' z : Fin s.rank → ℕ} {h : ∀ a, o a + z a ≤ s.size a} (h' : ∀ a, o' a + z a ≤ s.size a) (ho : o = o')
    {w : (Rect.unit o' z h').shape.Idx → Elt F e} {hx : (mm.access (Rect.unit o z h)).Stores Finset.univ}
    {hm : (Finset.univ : Finset (Rect.unit o z h).shape.Idx) = Finset.univ ∨ ∀ a, (Rect.unit o z h).stride a = 1}
    {k : PUnit → Prog (TpuEff nD τ sig (Elt F) Λ₀ .tc) α} {X : (Rect.unit o' z h').shape.Idx → Elt F e} :
    ownsTc c (mm.slice (Rect.unit o' z h') (fun _ => rfl)) fullShare X
      ⊢ iprop((ownsTc c (mm.slice (Rect.unit o' z h') (fun _ => rfl)) fullShare w -∗ WP c (k ⟨⟩) Q)
      -∗ WP c (.op (.store mm (Rect.unit o z h) w Finset.univ hx hm) k) Q) := by
  subst ho
  unfold ownsTc owns
  iintro ⟨%f, -, H⟩ Hk
  iapply (wp_store 𝒱₀ (c : Thread nD τ) none Set.univ (m := mm) (r := Rect.unit o z h) (Mk := Finset.univ)
    (S := (mm.slice (Rect.unit o z h) (fun _ => rfl)).view.set) (by rw [View.setOn_univ])) $$ H
  iintro H
  iapply Hk
  iexists _
  isplitr
  swap; · iexact H
  ipureintro
  exact View.read_write_univ _ _

end Cert.RingMM

end
-- ==== Proof.Moves.lean ====
/-
The effect rules at the kernel's own buffers: chunks of the first operand, column halves of the
second, halves and whole chunks of the accumulator, landing slots and copies out.
-/
module

public import proofs.«01_k».proof.Proof.Steps

@[expose] public section

set_option backward.proofsInPublic true

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 69) → ℕ)
/-! ## Rectangles within rectangles -/

/-- Half of a row chunk of the first operand is that half chunk of the operand. -/
theorem emb_x (q : Dev nD) (j : Fin 2) (i : (rXj j).shape.Idx) : (rX q).emb ((rXj j).emb i) = (rXs q j).emb i :=
  funext (Fin.forall_fin_two.mpr
    ⟨Fin.ext (by show 512 * q.val + 1 * (256 * j.val + 1 * (i 0).val) = 512 * q.val + 256 * j.val + 1 * (i 0).val; omega),
      Fin.ext (by show 0 + 1 * (0 + 1 * (i 1).val) = 0 + 1 * (i 1).val; omega)⟩)

/-- Half of a chunk of the accumulator is that half chunk. -/
theorem emb_sub (q : Dev nD) (h j : Fin 2) (i : (rSub j).shape.Idx) : (rChunk q h).emb ((rSub j).emb i) = (rHalf q j h).emb i :=
  funext (Fin.forall_fin_two.mpr
    ⟨Fin.ext (by show 512 * q.val + 1 * (256 * j.val + 1 * (i 0).val) = 512 * q.val + 256 * j.val + 1 * (i 0).val; omega),
      Fin.ext (by show 1024 * h.val + 1 * (0 + 1 * (i 1).val) = 1024 * h.val + 1 * (i 1).val; omega)⟩)

/-- A slice of a slice is the slice through the composed placement. -/
theorem owns_slice_slice (c : Thread nD τ) {sp : Space} {s : Shape} {e : EltTy} (mm : Memref sig c.2.kind sp s e) (q : PosShare TreeShare)
    (r : Rect s) (hr : ∀ a, r.stride a = 1) (r₁ : Rect r.shape) (hr₁ : ∀ a, r₁.stride a = 1) {o z : Fin s.rank → ℕ} (h : ∀ a, o a + z a ≤ s.size a)
    (em : (Rect.unit o z h).shape.Idx ≃ r₁.shape.Idx)
    (he : ∀ i, r.emb (r₁.emb (em i)) = (Rect.unit o z h).emb i) (X : r₁.shape.Idx → Elt F e) :
    (owns c ((mm.slice r hr).slice r₁ hr₁) q X : sProp 𝕄) ⊢ owns c (mm.slice (Rect.unit o z h) (fun _ => rfl)) q (fun i => X (em i)) := by
  unfold owns
  iintro ⟨%f, %hf, H⟩
  iexists f
  isplitr
  · ipureintro
    funext i
    rw [← hf]
    show mm.view.read (Elt F) f ((Rect.unit o z h).emb i) = mm.view.read (Elt F) f (r.emb (r₁.emb (em i)))
    rw [he]
  have hset : ((mm.slice r hr).slice r₁ hr₁).view.set = (mm.slice (Rect.unit o z h) (fun _ => rfl)).view.set := by
    show ((mm.view.slice r).slice r₁).set = (mm.view.slice (Rect.unit o z h)).set
    rw [View.set_slice, View.set_slice, ← Rect.map_emb_univ, ← Rect.map_emb_univ]
    ext x
    simp only [Finset.mem_map, Finset.mem_univ, true_and]
    constructor
    · rintro ⟨_, ⟨i, rfl⟩, rfl⟩
      refine ⟨_, ⟨em.symm i, rfl⟩, ?_⟩
      rw [← he, Equiv.apply_symm_apply]; rfl
    · rintro ⟨_, ⟨i, rfl⟩, rfl⟩
      refine ⟨_, ⟨em i, rfl⟩, ?_⟩
      rw [← he]; rfl
  rw [show (mm.slice (Rect.unit o z h) (fun _ => rfl)).view.set = ((mm.slice r hr).slice r₁ hr₁).view.set from hset.symm]
  iexact H

/-- The two halves of a chunk do not meet, -/
theorem rSub_disjoint : ∀ t t' : Fin 2, t ≠ t' → Disjoint (rSub t).set (rSub t').set := by
  intro t t' htt
  exact Rect.unit_disjoint (s := S512x1024) 0 (by show 256 * t.val + 256 ≤ 256 * t'.val ∨ 256 * t'.val + 256 ≤ 256 * t.val; omega)
/-- and make up the chunk. -/
theorem rSub_cover : (Finset.univ : Finset (Fin 2)).biUnion (fun t => (rSub t).set) = Finset.univ := by
  ext i
  simp only [Finset.mem_biUnion, Finset.mem_univ, true_and, iff_true]
  have h0 : (i 0).val < 512 := (i 0).isLt
  have h1 : (i 1).val < 1024 := (i 1).isLt
  refine ⟨⟨(i 0).val / 256, by omega⟩, Rect.mem_set_unit.mpr (Fin.forall_fin_two.mpr ⟨?_, ?_⟩)⟩
  · show 256 * ((i 0).val / 256) ≤ (i 0).val ∧ (i 0).val < 256 * ((i 0).val / 256) + 256; omega
  · show 0 ≤ (i 1).val ∧ (i 1).val < 0 + 1024; omega

/-- A chunk of the accumulator is its two halves. -/
theorem acc5_split (c : Dev nD) (q : Dev nD) (h : Fin 2) (V : V5 F) :
    (ownsTc c (acc5 q h) fullShare V : sProp 𝕄)
      ⊢ iprop(ownsTc c (accP q 0 h) fullShare (sub 0 V) ∗ ownsTc c (accP q 1 h) fullShare (sub 1 V)) := by
  refine (owns_rects (c : Thread nD τ) (acc5 q h) fullShare (fun t : Fin 2 => rSub t) (fun _ _ => rfl) rSub_disjoint rSub_cover V).trans ?_
  rw [bigSep_univ_eq_bigSepL [(0 : Fin 2), 1] (by decide) (by decide), bigSepL_cons_cons, bigSepL_singleton]
  exact BI.sep_mono
    (owns_slice_slice (c : Thread nD τ) accW fullShare (rChunk q h) (fun _ => rfl) (rSub 0) (fun _ => rfl) (inb_half 0 h q) (Equiv.refl _) (emb_sub q h 0) (sub 0 V))
    (owns_slice_slice (c : Thread nD τ) accW fullShare (rChunk q h) (fun _ => rfl) (rSub 1) (fun _ => rfl) (inb_half 1 h q) (Equiv.refl _) (emb_sub q h 1) (sub 1 V))

/-- Owning a landing slot without its slot axis is owning it with. -/
theorem owns_slot (c : Dev nD) (h : Fin 2) (s : Fin 12) (q : PosShare TreeShare) (V : V2 F) :
    (ownsTc c (slotM h s) q V : sProp 𝕄) = ownsTc c (slotR h s) q (unsq V) := by
  have hset : (slotM h s).view.set = (slotR h s).view.set := View.set_reshape _ _
  have h₁ : (ownsTc c (slotM h s) q V : sProp 𝕄) ⊢ ownsTc c (slotR h s) q (unsq V) := by
    unfold ownsTc owns
    iintro ⟨%f, %hf, H⟩
    iexists f
    isplitr
    · ipureintro
      funext i
      unfold unsq
      rw [← hf]
      show _ = (slotR h s).view.read (Elt F) f (Shape.reshapeEquiv _ ((Shape.reshapeEquiv _).symm i))
      rw [Equiv.apply_symm_apply]
    rw [← hset]; iexact H
  have h₂ : (ownsTc c (slotR h s) q (unsq V) : sProp 𝕄) ⊢ ownsTc c (slotM h s) q V := by
    unfold ownsTc owns
    iintro ⟨%f, %hf, H⟩
    iexists f
    isplitr
    · ipureintro
      funext i
      have := congrFun hf (Shape.reshapeEquiv squeezes_S1x256x1024_S256x1024.numel_eq i)
      unfold unsq at this
      rw [Equiv.symm_apply_apply] at this
      rw [← this]; rfl
    rw [hset]; iexact H
  exact BI.equiv_iff.mp ⟨h₁, h₂⟩

/-! ## Units of each transfer -/

/-- What a transfer into a landing slot raises its semaphore by; -/
theorem credit_slot (h : Fin 2) (s : Fin 12) : (slotM h s).view.dmaCredit = N2 := by
  fin_cases h <;> rfl
/-- a copy out; -/
theorem credit_out (q : Dev nD) (j h : Fin 2) : (outP q j h).view.dmaCredit = N2 := rfl
/-- a transfer from the accumulator; -/
theorem credit_acc (q : Dev nD) (j h : Fin 2) : (accP q j h).view.dmaCredit = N2 := rfl
/-- a copy in of a row chunk. -/
theorem credit_x (q : Dev nD) : (xvP q).view.dmaCredit = NX := rfl
/-- The amounts of the semaphores of half chunks, -/
theorem amt_lt (k : Fin 69) (h : k.val < 64) : amt (some k) = N2 := if_pos h
/-- and of the copies in of row chunks. -/
theorem amt_x (k : Fin 4) : amt (some (iS k.succ)) = NX := by revert k; decide +kernel

/-! ## Shares of one buffer piece -/

/-- A piece owned at a share is owned at both its halves, -/
theorem owns_halve (c : Dev nD) {sp : Space} {s : Shape} {e : EltTy} (mm : Memref sig .tc sp s e) (q : PosShare TreeShare) (X : s.Idx → Elt F e) :
    (ownsTc c mm q X : sProp 𝕄) ⊢ iprop(ownsTc c mm q.left X ∗ ownsTc c mm q.right X) := by
  unfold ownsTc owns
  iintro ⟨%f, %hf, H⟩
  ihave H := (pointsTo_share (PosShare.mem_left_op_right q)).1 $$ H
  icases H with ⟨H1, H2⟩
  isplitl [H1]
  · iexists f; isplitr; · (ipureintro; exact hf)
    iexact H1
  · iexists f; isplitr; · (ipureintro; exact hf)
    iexact H2

/-- and both halves make it up again. -/
theorem owns_unhalve (c : Dev nD) {sp : Space} {s : Shape} {e : EltTy} (mm : Memref sig .tc sp s e) (q : PosShare TreeShare) (X Y : s.Idx → Elt F e) :
    iprop(ownsTc c mm q.left X ∗ ownsTc c mm q.right Y) ⊢ (ownsTc c mm q X : sProp 𝕄) := by
  unfold ownsTc owns
  iintro ⟨⟨%f, %hf, H1⟩, ⟨%g, -, H2⟩⟩
  ihave H := (persistent_entails_right pointsTo_agree) $$ [H1 H2]
  · isplitl [H1] <;> iassumption
  icases H with ⟨%ha, H1, H2⟩
  iexists f
  isplitr; · (ipureintro; exact hf)
  iapply (pointsTo_share (PosShare.mem_left_op_right q)).2
  isplitl [H1]; · iexact H1
  rw [show (mm.view.loc (c : Thread nD τ) ↦[mm.view.set]{q.right} f : sProp 𝕄) = mm.view.loc (c : Thread nD τ) ↦[mm.view.set]{q.right} g from
    pointsTo_congr fun i hi => (ha i (Finset.mem_inter.mpr ⟨hi, hi⟩)).1]
  iexact H2

/-! ## Pieces by role -/

/-- Half `j` of chunk `q`, column half `h`, of the accumulator, whatever it holds; -/
def AccE (c q : Dev nD) (j h : Fin 2) : sProp 𝕄 := iprop(∃ V, ownsTc (Val := Elt F) c (accP q j h) fullShare V)
/-- the whole of the chunk; -/
def Acc5E (c q : Dev nD) (h : Fin 2) : sProp 𝕄 := iprop(∃ V, ownsTc (Val := Elt F) c (acc5 q h) fullShare V)
/-- the piece of the result the `k`-th copy out writes; -/
def OutE (c : Dev nD) (k : Fin 16) : sProp 𝕄 := iprop(∃ V, ownsTc (Val := Elt F) c (outP (oC k c) (oJ k) (oH k)) fullShare V)
/-- what the `k`-th copy out reads; -/
def outSrc (c : Dev nD) (k : Fin 16) : sProp 𝕄 := ownsTc c (oM k c) (oQ k) (oV m k c)
/-- what a copy in of a row chunk takes; -/
def XIn (c q : Dev nD) : sProp 𝕄 :=
  iprop(ownsTc c (xaP q) fullShare (x5 m c q) ∗ ∃ V, ownsTc (Val := Elt F) c (xvP q) fullShare V)
/-- what the second operand's copy in takes. -/
def WIn (c : Dev nD) : sProp 𝕄 :=
  iprop(ownsTc c waW fullShare (Wd m c) ∗ ∃ V, ownsTc (Val := Elt F) c wvW fullShare V)

/-- Slot of step `t`, half `j`. -/
abbrev sl (t : Fin 6) (j : Fin 2) : Fin 12 := ⟨2 * t.val + j.val, by omega⟩
/-- Copy out of step `t`, half `j`, direction `h`. -/
abbrev ko (t : Fin 4) (j h : Fin 2) : Fin 16 := ⟨4 * t.val + 2 * j.val + h.val, by omega⟩

/-- The first transfer carries the device's own partial product. -/
theorem src_0 (c : Dev nD) (h j : Fin 2) {W : V2 F} (hW : W = P2 m c (dn h c) j h) :
    (ownsTc c (accP (dn h c) j h) fullShare W : sProp 𝕄) ⊢ sendPay m c h (sl 0 j) := by
  subst hW
  have e : P2 m c (dn h c) j h = V0 m (dn h c) j h := by unfold V0; rw [up_dn]
  rw [e]
  fin_cases j <;> exact .rfl

/-- The second carries the sum at the chunk's own device. -/
theorem src_1 (c : Dev nD) (h j : Fin 2) {W : V2 F} (hW : W = VB m c j h) :
    (ownsTc c (accP c j h) fullShare W : sProp 𝕄) ⊢ sendPay m c h (sl 1 j) := by
  subst hW
  fin_cases j <;> exact .rfl

/-- The third carries the partial product for the chunk across the ring. -/
theorem src_2 (c : Dev nD) (h j : Fin 2) {W : V2 F} (hW : W = sub j (P5 m c (opp c) h)) :
    (ownsTc c (accP (opp c) j h) fullShare W : sProp 𝕄) ⊢ sendPay m c h (sl 2 j) := by
  subst hW
  have e : sub j (P5 m c (opp c) h) = VD m (opp c) j h := by unfold VD; rw [opp_opp]
  rw [e]
  fin_cases j <;> exact .rfl

/-- A finished half chunk goes both ways and out. -/
theorem src_34 (c : Dev nD) (h j : Fin 2) {W : V2 F} (hW : W = VR m (up h c) j h) :
    (ownsTc c (accP (up h c) j h) fullShare W : sProp 𝕄) ⊢ iprop(sendPay m c h (sl 3 j) ∗ sendPay m c h (sl 4 j) ∗ outSrc m c (ko 0 j h)) := by
  subst hW
  have e : iprop(ownsTc c (accP (up h c) j h) fullShare.left (VR m (up h c) j h)
      ∗ ownsTc c (accP (up h c) j h) fullShare.right.left (VR m (up h c) j h)
      ∗ ownsTc c (accP (up h c) j h) fullShare.right.right (VR m (up h c) j h))
      ⊢ iprop(sendPay m c h (sl 3 j) ∗ sendPay m c h (sl 4 j) ∗ outSrc m c (ko 0 j h)) := by
    fin_cases j <;> fin_cases h <;> exact .rfl
  exact ((owns_halve c _ _ _).trans (BI.sep_mono (BI.Entails.refl _) (owns_halve c _ _ _))).trans e

/-- The device's own finished half chunk, landed, goes on and out. -/
theorem src_5 (c : Dev nD) (h j : Fin 2) :
    recvPay m c h (sl 3 j) ⊢ iprop(sendPay m c h (sl 5 j) ∗ outSrc m c (ko 1 j h)) := by
  have e : iprop(ownsTc c (slotM h (sl 3 j)) fullShare.left (VR m c j h) ∗ ownsTc c (slotM h (sl 3 j)) fullShare.right (VR m c j h))
      ⊢ iprop(sendPay m c h (sl 5 j) ∗ outSrc m c (ko 1 j h)) := by
    fin_cases j <;> fin_cases h <;> exact .rfl
  refine BI.Entails.trans ?_ e
  have e' : recvPay m c h (sl 3 j) ⊢ ownsTc c (slotM h (sl 3 j)) fullShare (VR m c j h) := by fin_cases j <;> exact .rfl
  exact e'.trans (owns_halve c _ _ _)

/-- A finished half chunk of another device, landed, goes out. -/
theorem src_out2 (c : Dev nD) (h j : Fin 2) : recvPay m c h (sl 4 j) ⊢ outSrc m c (ko 2 j h) := by
  fin_cases j <;> fin_cases h <;> exact .rfl
/-- The last finished half chunk, landed, goes out. -/
theorem src_out3 (c : Dev nD) (h j : Fin 2) : recvPay m c h (sl 5 j) ⊢ outSrc m c (ko 3 j h) := by
  fin_cases j <;> fin_cases h <;> exact .rfl

/-! ## Copies in and out -/

/-- A copy in of a row chunk hands over the row chunk; -/
theorem payD_x (c : Dev nD) (i : Fin 4) : payD m c (iS i.succ) = xPay m c (iC i c) := by
  rw [payD_in]; fin_cases i <;> rfl
/-- that of the second operand hands over that operand. -/
theorem payD_w (c : Dev nD) : payD m c (iS 0) = wPay m c := payD_in m c 0

/-- The copy in of a row chunk. -/
theorem step_in_x {α : Type} (c : Dev nD) {Q : α → sProp 𝕄} (i : Fin 4) {src : Memref sig .tc .hbm S512x512 .f32} {dst : Memref sig .tc .vmem S512x512 .f32}
    {b : SemLoc sig} {hsrc : src.view.WordExact} {hdst : dst.view.WordExact}
    {hsem : DmaTarget.Typed (nD := nD) (τ := τ) (p := .tc) Space.hbm b (.here dst)}
    {k : PUnit → Prog (TpuEff nD τ sig (Elt F) Λ₀ .tc) α} (hs : src = xaP (iC i c)) (ht : dst = xvP (iC i c)) (hb : b = .dma (iS i.succ)) :
    INV m K ⊢ iprop(LocTok (F := F) c (iS i.succ) -∗ XIn m c (iC i c) -∗ (Fly (F := F) c (iS i.succ) -∗ WP c (k ⟨⟩) Q)
      -∗ WP c (.op (.enqueueDma src (.here dst) b hsrc hdst hsem) k) Q) := by
  unfold XIn
  iintro #HI HT ⟨Hs, Hd⟩ Hk
  iapply (step_copy m K c (iS i.succ) (X := x5 m c (iC i c)) (q := fullShare) hs ht hb ((credit_x _).trans (amt_x i).symm)
    ((payD_x m c i).trans (by unfold xPay; rfl))) $$ HI HT Hs Hd
  iexact Hk

/-- The copy in of the second operand. -/
theorem step_in_w {α : Type} (c : Dev nD) {Q : α → sProp 𝕄}
    {b : SemLoc sig} {hsrc : waW.view.WordExact} {hdst : wvW.view.WordExact}
    {hsem : DmaTarget.Typed (nD := nD) (τ := τ) (p := .tc) Space.hbm b (.here wvW)}
    {k : PUnit → Prog (TpuEff nD τ sig (Elt F) Λ₀ .tc) α} (hb : b = .dma (iS 0)) :
    INV m K ⊢ iprop(LocTok (F := F) c (iS 0) -∗ WIn m c -∗ (Fly (F := F) c (iS 0) -∗ WP c (k ⟨⟩) Q)
      -∗ WP c (.op (.enqueueDma waW (.here wvW) b hsrc hdst hsem) k) Q) := by
  unfold WIn
  iintro #HI HT ⟨Hs, Hd⟩ Hk
  iapply (step_copy m K c (iS 0) (X := Wd m c) (q := fullShare) rfl rfl hb rfl ((payD_w m c).trans (by unfold wPay; rfl))) $$ HI HT Hs Hd
  iexact Hk

/-- A copy out. -/
theorem step_out {α : Type} (c : Dev nD) {Q : α → sProp 𝕄} (i : Fin 16) {src : Memref sig .tc .vmem S256x1024 .f32} {dst : Memref sig .tc .hbm S256x1024 .f32}
    {b : SemLoc sig} {hsrc : src.view.WordExact} {hdst : dst.view.WordExact}
    {hsem : DmaTarget.Typed (nD := nD) (τ := τ) (p := .tc) Space.vmem b (.here dst)}
    {k : PUnit → Prog (TpuEff nD τ sig (Elt F) Λ₀ .tc) α} (hs : src = oM i c) (ht : dst = outP (oC i c) (oJ i) (oH i)) (hb : b = .dma (oS i)) :
    INV m K ⊢ iprop(LocTok (F := F) c (oS i) -∗ outSrc m c i -∗ OutE (F := F) c i -∗ (Fly (F := F) c (oS i) -∗ WP c (k ⟨⟩) Q)
      -∗ WP c (.op (.enqueueDma src (.here dst) b hsrc hdst hsem) k) Q) := by
  unfold outSrc OutE
  iintro #HI HT Hs Hd Hk
  iapply (step_copy m K c (oS i) (X := oV m i c) (q := oQ i) hs ht hb ((credit_out _ _ _).trans (amt_lt _ (by show 48 + i.val < 64; omega)).symm)
    ((payD_out m c i).trans (by unfold outPay; rfl))) $$ HI HT Hs Hd
  iexact Hk

/-! ## Loads and stores -/

section
variable {α : Type} (c : Dev nD)

/-- A load of half a row chunk. -/
theorem step_load_xh {Q : α → sProp (MT nD τ sig Unit (Elt F) ℕ UU ℕ)} (q : Dev nD) (j : Fin 2) {o : Fin 2 → ℕ} {hh : ∀ a, o a + S256x512.size a ≤ S2048x512.size a}
    (ho : o = ![512 * q.val + 256 * j.val, 0]) {hl : xvW.view.LoadsAt (Rect.unit (s := S2048x512) o S256x512.size hh).toLoadRect}
    {k : ((Rect.unit (s := S2048x512) o S256x512.size hh).shape.Idx → Elt F .f32) → Prog (TpuEff nD τ sig (Elt F) Λ₀ .tc) α} :
    xPay m c q ⊢ iprop((xPay m c q -∗ WP c (k (xs m c q j)) Q)
      -∗ WP c (.op (.load xvW (Rect.unit (s := S2048x512) o S256x512.size hh).toLoadRect hl) k) Q) := by
  unfold xPay
  iintro ⟨H, H'⟩ Hk
  iapply (step_load c xvW (rX q) (fun _ => rfl) (inb_xs j q) ho (fun i => (rXj j).emb i) (emb_x q j)) $$ H
  iintro H
  iapply Hk
  isplitl [H] <;> iassumption

/-- A load of a row chunk. -/
theorem step_load_x5 {Q : α → sProp (MT nD τ sig Unit (Elt F) ℕ UU ℕ)} (q : Dev nD) {o : Fin 2 → ℕ} {hh : ∀ a, o a + S512x512.size a ≤ S2048x512.size a}
    (ho : o = ![512 * q.val, 0]) {hl : xvW.view.LoadsAt (Rect.unit (s := S2048x512) o S512x512.size hh).toLoadRect}
    {k : ((Rect.unit (s := S2048x512) o S512x512.size hh).shape.Idx → Elt F .f32) → Prog (TpuEff nD τ sig (Elt F) Λ₀ .tc) α} :
    xPay m c q ⊢ iprop((xPay m c q -∗ WP c (k (x5 m c q)) Q)
      -∗ WP c (.op (.load xvW (Rect.unit (s := S2048x512) o S512x512.size hh).toLoadRect hl) k) Q) := by
  unfold xPay
  iintro ⟨H, H'⟩ Hk
  iapply (step_load c xvW (rX q) (fun _ => rfl) (inb_x q) ho (fun i => i) (fun _ => rfl)) $$ H
  iintro H
  iapply Hk
  isplitl [H] <;> iassumption

/-- A load of a column half of the second operand. -/
theorem step_load_w {Q : α → sProp (MT nD τ sig Unit (Elt F) ℕ UU ℕ)} (h : Fin 2) {o : Fin 2 → ℕ} {hh : ∀ a, o a + S512x1024.size a ≤ S512x2048.size a}
    (ho : o = ![0, 1024 * h.val]) {hl : wvW.view.LoadsAt (Rect.unit (s := S512x2048) o S512x1024.size hh).toLoadRect}
    {k : ((Rect.unit (s := S512x2048) o S512x1024.size hh).shape.Idx → Elt F .f32) → Prog (TpuEff nD τ sig (Elt F) Λ₀ .tc) α} :
    wPay m c ⊢ iprop((wPay m c -∗ WP c (k (wh m c h)) Q)
      -∗ WP c (.op (.load wvW (Rect.unit (s := S512x2048) o S512x1024.size hh).toLoadRect hl) k) Q) := by
  subst ho
  unfold wPay
  iintro ⟨H, H'⟩ Hk
  iapply (step_load_all c wvW) $$ H
  iintro H
  iapply Hk
  isplitl [H] <;> iassumption

/-- A load of a half chunk of the accumulator. -/
theorem step_load_acc {Q : α → sProp (MT nD τ sig Unit (Elt F) ℕ UU ℕ)} (q : Dev nD) (j h : Fin 2) {o : Fin 2 → ℕ} {hh : ∀ a, o a + S256x1024.size a ≤ S2048x2048.size a}
    (ho : o = ![512 * q.val + 256 * j.val, 1024 * h.val]) {hl : accW.view.LoadsAt (Rect.unit (s := S2048x2048) o S256x1024.size hh).toLoadRect} {V : V2 F}
    {k : ((Rect.unit (s := S2048x2048) o S256x1024.size hh).shape.Idx → Elt F .f32) → Prog (TpuEff nD τ sig (Elt F) Λ₀ .tc) α} :
    ownsTc c (accP q j h) fullShare V ⊢ iprop((ownsTc c (accP q j h) fullShare V -∗ WP c (k V) Q)
      -∗ WP c (.op (.load accW (Rect.unit (s := S2048x2048) o S256x1024.size hh).toLoadRect hl) k) Q) :=
  step_load c accW (rHalf q j h) (fun _ => rfl) (inb_half j h q) ho (fun i => i) (fun _ => rfl)

/-- A load of a landing slot. -/
theorem step_load_slot {Q : α → sProp (MT nD τ sig Unit (Elt F) ℕ UU ℕ)} (h : Fin 2) (s : Fin 12) {mm : Memref sig .tc .vmem S12x256x1024 .f32}
    {o : Fin 3 → ℕ} {hh : ∀ a, o a + S1x256x1024.size a ≤ S12x256x1024.size a}
    (hm : mm = slab h) (ho : o = ![s.val, 0, 0]) {hl : mm.view.LoadsAt (Rect.unit (s := S12x256x1024) o S1x256x1024.size hh).toLoadRect}
    {k : ((Rect.unit (s := S12x256x1024) o S1x256x1024.size hh).shape.Idx → Elt F .f32) → Prog (TpuEff nD τ sig (Elt F) Λ₀ .tc) α} :
    recvPay m c h s ⊢ iprop((recvPay m c h s -∗ WP c (k (unsq (rcvV m h s c))) Q)
      -∗ WP c (.op (.load mm (Rect.unit (s := S12x256x1024) o S1x256x1024.size hh).toLoadRect hl) k) Q) := by
  subst hm
  unfold recvPay
  rw [owns_slot]
  exact step_load c (slab h) (rSlot s) (fun _ => rfl) (inb_slot s) ho (fun i => i) (fun _ => rfl)

/-- A store to a half chunk of the accumulator. -/
theorem step_store_acc {Q : α → sProp (MT nD τ sig Unit (Elt F) ℕ UU ℕ)} (q : Dev nD) (j h : Fin 2) {o : Fin 2 → ℕ} {hh : ∀ a, o a + S256x1024.size a ≤ S2048x2048.size a}
    (ho : o = ![512 * q.val + 256 * j.val, 1024 * h.val]) {w : S256x1024.Idx → Elt F .f32} {hx : (accW.access (Rect.unit (s := S2048x2048) o S256x1024.size hh)).Stores Finset.univ}
    {hm : (Finset.univ : Finset (Rect.unit (s := S2048x2048) o S256x1024.size hh).shape.Idx) = Finset.univ ∨ ∀ a, (Rect.unit (s := S2048x2048) o S256x1024.size hh).stride a = 1}
    {k : PUnit → Prog (TpuEff nD τ sig (Elt F) Λ₀ .tc) α} {V : V2 F} :
    ownsTc c (accP q j h) fullShare V ⊢ iprop((ownsTc c (accP q j h) fullShare w -∗ WP c (k ⟨⟩) Q)
      -∗ WP c (.op (.store accW (Rect.unit (s := S2048x2048) o S256x1024.size hh) w Finset.univ hx hm) k) Q) :=
  step_store c accW (inb_half j h q) ho

/-- A store to a whole chunk of the accumulator, after the load of what it held: both halves of what is
    stored. -/
theorem step_store_acc5 {Q : α → sProp (MT nD τ sig Unit (Elt F) ℕ UU ℕ)} (q : Dev nD) (h : Fin 2) {o : Fin 2 → ℕ} {hh : ∀ a, o a + S512x1024.size a ≤ S2048x2048.size a}
    (ho : o = ![512 * q.val, 1024 * h.val]) {hl : accW.view.LoadsAt (Rect.unit (s := S2048x2048) o S512x1024.size hh).toLoadRect}
    {w : S512x1024.Idx → Elt F .f32} {hx : (accW.access (Rect.unit (s := S2048x2048) o S512x1024.size hh)).Stores Finset.univ}
    {hm : (Finset.univ : Finset (Rect.unit (s := S2048x2048) o S512x1024.size hh).shape.Idx) = Finset.univ ∨ ∀ a, (Rect.unit (s := S2048x2048) o S512x1024.size hh).stride a = 1}
    {k : PUnit → Prog (TpuEff nD τ sig (Elt F) Λ₀ .tc) α} :
    Acc5E (F := F) c q h ⊢ iprop(((ownsTc c (accP q 0 h) fullShare (sub 0 w) ∗ ownsTc c (accP q 1 h) fullShare (sub 1 w)) -∗ WP c (k ⟨⟩) Q)
      -∗ WP c (.op (.load accW (Rect.unit (s := S2048x2048) o S512x1024.size hh).toLoadRect hl) fun _ => .op (.store accW (Rect.unit (s := S2048x2048) o S512x1024.size hh) w Finset.univ hx hm) k) Q) := by
  unfold Acc5E
  iintro ⟨%V, H⟩ Hk
  iapply (step_load c accW (rChunk q h) (fun _ => rfl) (inb_chunk h q) ho (fun i => i) (fun _ => rfl)) $$ H
  iintro H
  iapply (step_store c accW (inb_chunk h q) ho) $$ H
  iintro H
  iapply Hk
  iapply (acc5_split c q h w); iexact H

end

/-! ## Waits -/

/-- What is still owed after the first `n` raises. -/
def rem (n : ℕ) : List Pay := pays.drop n

/-- Every transfer's source raises by the amount of a half chunk. -/
theorem credit_src (h : Fin 2) (s : Fin 12) (c : Dev nD) : (srcM h s c).view.dmaCredit = N2 := by
  unfold srcM
  split
  · rfl
  · rfl
  · rfl
  · rfl
  · rfl
  · exact credit_slot _ _

/-- The wait for a transfer to have left: its source again. -/
theorem step_wait_send {α : Type} (c : Dev nD) {Q : α → sProp 𝕄} (h : Fin 2) (s : Fin 12) {sp : Space} {src : Memref sig .tc sp S256x1024 .f32} {dst : Memref sig .tc .vmem S256x1024 .f32}
    {b : DmaSem sig} {hsrc : src.view.WordExact} {hdst : dst.view.WordExact}
    {k : PUnit → Prog (TpuEff nD τ sig (Elt F) Λ₀ .tc) α} (P : List Pay) (l : List (Option (Fin 69)))
    (hb : b = sS h s) (ht : dst = srcM h s c) (hlv : ∀ p ∈ P, lvS (.dma (sS h s) : SemLoc sig) < lvS (csem p.2)) :
    INV m K ⊢ iprop(Fly (F := F) c (sS h s) -∗ St (F := F) c P l
      -∗ ((sendPay m c h s ∗ St (F := F) c P (some (sS h s) :: l)) -∗ WP c (k ⟨⟩) Q)
      -∗ WP c (.op (.waitDma2 b src dst hsrc hdst) k) Q) :=
  step_wait m K c (sS h s) P l hb ((ht ▸ credit_src h s c : dst.view.dmaCredit = N2).trans (amt_lt _ (by show 24 * h.val + s.val < 64; omega)).symm) (payD_send m c h s) hlv

/-- The wait for a landing: the slot with what landed. -/
theorem step_wait_recv {α : Type} (c : Dev nD) {Q : α → sProp 𝕄} (h : Fin 2) (s : Fin 12) {sp : Space} {src : Memref sig .tc sp S256x1024 .f32} {dst : Memref sig .tc .vmem S256x1024 .f32}
    {b : DmaSem sig} {hsrc : src.view.WordExact} {hdst : dst.view.WordExact}
    {k : PUnit → Prog (TpuEff nD τ sig (Elt F) Λ₀ .tc) α} (P : List Pay) (l : List (Option (Fin 69)))
    (hb : b = rS h s) (ht : dst = slotM h s) (hlv : ∀ p ∈ P, lvS (.dma (rS h s) : SemLoc sig) < lvS (csem p.2)) :
    INV m K ⊢ iprop(Fly (F := F) c (rS h s) -∗ St (F := F) c P l
      -∗ ((recvPay m c h s ∗ St (F := F) c P (some (rS h s) :: l)) -∗ WP c (k ⟨⟩) Q)
      -∗ WP c (.op (.waitDma2 b src dst hsrc hdst) k) Q) :=
  step_wait m K c (rS h s) P l hb ((ht ▸ credit_slot h s : dst.view.dmaCredit = N2).trans (amt_lt _ (by show 24 * h.val + 12 + s.val < 64; omega)).symm) (payD_recv m c h s) hlv

/-- The wait for a copy out: the piece of the result, and its source. -/
theorem step_wait_out {α : Type} (c : Dev nD) {Q : α → sProp 𝕄} (i : Fin 16) {sp : Space} {src : Memref sig .tc sp S256x1024 .f32} {dst : Memref sig .tc .hbm S256x1024 .f32}
    {b : DmaSem sig} {hsrc : src.view.WordExact} {hdst : dst.view.WordExact}
    {k : PUnit → Prog (TpuEff nD τ sig (Elt F) Λ₀ .tc) α} (l : List (Option (Fin 69)))
    (hb : b = oS i) (ht : dst = outP (oC i c) (oJ i) (oH i)) :
    INV m K ⊢ iprop(Fly (F := F) c (oS i) -∗ St (F := F) c (rem 26) l
      -∗ ((outPay m c i ∗ St (F := F) c (rem 26) (some (oS i) :: l)) -∗ WP c (k ⟨⟩) Q)
      -∗ WP c (.op (.waitDma2 b src dst hsrc hdst) k) Q) :=
  step_wait m K c (oS i) (rem 26) l hb ((ht ▸ credit_out _ _ _ : dst.view.dmaCredit = N2).trans (amt_lt _ (by show 48 + i.val < 64; omega)).symm) (payD_out m c i) (fun _ h => absurd h List.not_mem_nil)

/-- The wait for a copy in of a row chunk. -/
theorem step_wait_x {α : Type} (c : Dev nD) {Q : α → sProp 𝕄} (i : Fin 4) {sp : Space} {src : Memref sig .tc sp S512x512 .f32} {dst : Memref sig .tc .vmem S512x512 .f32}
    {b : DmaSem sig} {hsrc : src.view.WordExact} {hdst : dst.view.WordExact}
    {k : PUnit → Prog (TpuEff nD τ sig (Elt F) Λ₀ .tc) α} (P : List Pay) (l : List (Option (Fin 69)))
    (hb : b = iS i.succ) (ht : dst = xvP (iC i c)) (hlv : ∀ p ∈ P, lvS (.dma (iS i.succ) : SemLoc sig) < lvS (csem p.2)) :
    INV m K ⊢ iprop(Fly (F := F) c (iS i.succ) -∗ St (F := F) c P l
      -∗ ((xPay m c (iC i c) ∗ St (F := F) c P (some (iS i.succ) :: l)) -∗ WP c (k ⟨⟩) Q)
      -∗ WP c (.op (.waitDma2 b src dst hsrc hdst) k) Q) :=
  step_wait m K c (iS i.succ) P l hb ((ht ▸ credit_x _ : dst.view.dmaCredit = NX).trans (amt_x i).symm) (payD_x m c i) hlv

/-- The wait for the copy in of the second operand. -/
theorem step_wait_w {α : Type} (c : Dev nD) {Q : α → sProp 𝕄} {sp : Space} {src : Memref sig .tc sp S512x2048 .f32}
    {b : DmaSem sig} {hsrc : src.view.WordExact} {hdst : wvW.view.WordExact}
    {k : PUnit → Prog (TpuEff nD τ sig (Elt F) Λ₀ .tc) α} (P : List Pay) (l : List (Option (Fin 69)))
    (hb : b = iS 0) (hlv : ∀ p ∈ P, lvS (.dma (iS 0) : SemLoc sig) < lvS (csem p.2)) :
    INV m K ⊢ iprop(Fly (F := F) c (iS 0) -∗ St (F := F) c P l
      -∗ ((wPay m c ∗ St (F := F) c P (some (iS 0) :: l)) -∗ WP c (k ⟨⟩) Q)
      -∗ WP c (.op (.waitDma2 b src wvW hsrc hdst) k) Q) :=
  step_wait m K c (iS 0) P l hb rfl (payD_w m c) hlv

/-- The end of a printed part. -/
theorem step_ret {α : Type} (c : Dev nD) {Q : α → sProp (MT nD τ sig Unit (Elt F) ℕ UU ℕ)} (a : α) : Q a ⊢ WP c (.ret a) Q := by
  show Q a ⊢ iprop(|={Set.univ}[_]=> Q a)
  exact fupd_intro

end Cert.RingMM

end
-- ==== Proof.Sites.lean ====
/-
The kernel's views, by the pieces they are: where a transfer reads, where a copy out writes; the meeting
at the barrier.
-/
module

public import proofs.«01_k».proof.Proof.Moves

@[expose] public section

set_option backward.proofsInPublic true

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 69) → ℕ)

/-! ## Two more rules -/

/-- A transfer, by what its source is worth. -/
theorem step_go {α : Type} (c : Dev nD) {Q : α → sProp 𝕄} (h : Fin 2) (s : Fin 12) {d : Dev nD} {src dst : Memref sig .tc .vmem S256x1024 .f32} {a b : SemLoc sig}
    {hsc : dst.view.ref.isScScratch = false} {hsrc : src.view.WordExact} {hdst : dst.view.WordExact}
    {hsem : DmaTarget.Typed (nD := nD) (τ := τ) (p := .tc) Space.vmem b (.remote (Dev.tc d) dst a hsc)}
    {k : PUnit → Prog (TpuEff nD τ sig (Elt F) Λ₀ .tc) α} {P : List Pay} (P' : List Pay) {l : List (Option (Fin 69))}
    (hs : src = srcM h s c) (hd : d = tgt h s c) (ht : dst = slotM h s) (ha : a = .dma (sS h s)) (hb : b = .dma (rS h s))
    (hP : P = payOf h s :: P') :
    INV m K ⊢ iprop(Ready (F := F) c h s -∗ sendPay m c h s -∗ St (F := F) c P l
      -∗ ((Fly (F := F) c (sS h s) ∗ St (F := F) c P' l) -∗ WP c (k ⟨⟩) Q)
      -∗ WP c (.op (.enqueueDma src (.remote (Dev.tc d) dst a hsc) b hsrc hdst hsem) k) Q) := by
  subst hP
  exact step_send m K c h s P' l hs hd ht ha hb (credit_slot h s)

/-- A half chunk of the accumulator is stored, after the load of what it held. -/
theorem step_store_accE {α : Type} (c : Dev nD) {Q : α → sProp 𝕄} (q : Dev nD) (j h : Fin 2) {o : Fin 2 → ℕ} {hh : ∀ a, o a + S256x1024.size a ≤ S2048x2048.size a}
    (ho : o = ![512 * q.val + 256 * j.val, 1024 * h.val]) {hl : accW.view.LoadsAt (Rect.unit (s := S2048x2048) o S256x1024.size hh).toLoadRect}
    {w : S256x1024.Idx → Elt F .f32} {hx : (accW.access (Rect.unit (s := S2048x2048) o S256x1024.size hh)).Stores Finset.univ}
    {hm : (Finset.univ : Finset (Rect.unit (s := S2048x2048) o S256x1024.size hh).shape.Idx) = Finset.univ ∨ ∀ a, (Rect.unit (s := S2048x2048) o S256x1024.size hh).stride a = 1}
    {k : PUnit → Prog (TpuEff nD τ sig (Elt F) Λ₀ .tc) α} :
    AccE (F := F) c q j h ⊢ iprop((ownsTc c (accP q j h) fullShare w -∗ WP c (k ⟨⟩) Q)
      -∗ WP c (.op (.load accW (Rect.unit (s := S2048x2048) o S256x1024.size hh).toLoadRect hl) fun _ => .op (.store accW (Rect.unit (s := S2048x2048) o S256x1024.size hh) w Finset.univ hx hm) k) Q) := by
  unfold AccE
  iintro ⟨%V, H⟩ Hk
  iapply (step_load_acc c q j h ho) $$ H
  iintro H
  iapply (step_store_acc c q j h ho) $$ H
  iexact Hk

/-- Contents known to be others. -/
theorem recast (c : Dev nD) {sp : Space} {s : Shape} {e : EltTy} (mm : Memref sig .tc sp s e) {q : PosShare TreeShare} {X Y : s.Idx → Elt F e} (h : X = Y) :
    (ownsTc c mm q X : sProp 𝕄) ⊢ ownsTc c mm q Y := h ▸ .rfl

/-! ## Values at their places -/

/-- The device's own chunk, by its own partial product, -/
theorem P5_own (c : Dev nD) (h : Fin 2) : k0_pay7 (x5 m c (iC 3 c)) (wh m c h) = P5 m c c h := by
  show k0_pay7 (x5 m c (sh 0 c)) (wh m c h) = _; rw [sh_zero]; rfl
/-- and the finished half chunk of the device above. -/
theorem VR_up (c : Dev nD) (j h : Fin 2) :
    k0_pay17 (sub j (P5 m c (up h c) h)) (unsq (VB m (up h c) j h)) (unsq (VD m (up h c) j h)) = VR m (up h c) j h := by
  unfold VR; rw [dn_up]

/-! ## Offsets -/

/-- No way around the ring leads to the device itself, -/
theorem sh0_val (c : Dev nD) : (iC 3 c).val = c.val := congrArg Fin.val (sh_zero c)
/-- which names the row chunk copied in last. -/
theorem at_x3 (c : Dev nD) : k0_off10 c = ![512 * (iC 3 c).val, 0] := by rw [sh0_val]; exact k0_off10_eq c

/-! ## The barrier -/

/-- What a device brings to the barrier: the right to raise either neighbour's semaphore and to wait on its own. -/
def BarTok (c : Dev nD) : sProp 𝕄 :=
  iprop(cred (tallyAt (kcell (c, none)) () 2) ∗ atPos ER (kcell (c, none)) 0 ∅ 0
    ∗ dutyTok ER (kcell (sh 3 c, none)) 0 true ∗ dutyTok ER (kcell (sh 1 c, none)) 0 false)

/-- The left neighbour's right neighbour is the device itself, -/
theorem sh13 (c : Dev nD) : sh 1 (sh 3 c) = c := by revert c; decide
/-- and the right one's left neighbour too. -/
theorem sh31 (c : Dev nD) : sh 3 (sh 1 c) = c := by revert c; decide

/-- Every landing that is still owed at the barrier has a higher level. -/
theorem dma_lt_bar : ∀ p ∈ rem 2, lvS (.reg barS) < lvS (csem p.2) := by decide

/-- The meeting at the barrier: slots are given to both neighbours, and theirs are got. -/
theorem step_barrier {α : Type} (c : Dev nD) {Q : α → sProp 𝕄} {d₁ d₂ : Dev nD} {n₁ n₂ n₃ : ℤ} {k : PUnit → Prog (TpuEff nD τ sig (Elt F) Λ₀ .tc) α}
    (l : List (Option (Fin 69))) (h₁ : d₁ = sh 3 c) (h₂ : d₂ = sh 1 c) (e₁ : n₁ = 1) (e₂ : n₂ = 1) (e₃ : n₃ = 2) :
    INV m K ⊢ iprop(BarTok (F := F) c -∗ give (F := F) c 1 0 -∗ give (F := F) c 0 1 -∗ St (F := F) c (rem 0) l
      -∗ ((give (F := F) (sh 3 c) 0 1 ∗ give (F := F) (sh 1 c) 1 0 ∗ St (F := F) c (rem 2) (none :: l)) -∗ WP c (k ⟨⟩) Q)
      -∗ WP c (.op (.semSignal (d₁ : Thread nD τ) barS n₁) fun _ => .op (.semSignal (d₂ : Thread nD τ) barS n₂) fun _ => .op (.semWait barS n₃) k) Q) := by
  subst h₁ h₂ e₁ e₂ e₃
  unfold BarTok St
  iintro #HI ⟨Hc, Hat, Ht1, Ht2⟩ Hg1 Hg2 ⟨⟨%W, HO⟩, HD⟩ Hk
  iapply (Rounds.wp_signal 𝒱₀ ER (ringRd m) (c : Thread nD τ) none (dst := (sh 3 c : Thread nD τ)) (κ := K (sh 3 c, none))
      (d := true) (by rw [show (((sh 3 c : Dev nD) : Thread nD τ), SemLoc.reg barS) = kcell (sh 3 c, none) from rfl, duties_bar]; decide) ((amount_at m (sh 3 c) none true).trans (by decide)) () (owed c (rem 1)) (owed_cons c (3, none) (rem 1)))
    $$ [HO Ht1 Hg1]
  · isplitr; · iapply (INV_inv m K (sh 3 c, none)); iexact HI
    isplitl [HO]; · iexact HO
    isplitl [Ht1]; · iexact Ht1
    isplitl [Hg1]
    · iapply (show give (F := F) c 1 0 ⊢ (ringRd m).payload (kcell (sh 3 c, none)) 0 true by
        rw [payload_bar]; show give (F := F) c 1 0 ⊢ give (sh 1 (sh 3 c)) 1 0; rw [sh13])
      iexact Hg1
    · iapply (INV_reached m K (sh 3 c, none)); iexact HI
  iintro HO
  iapply (Rounds.wp_signal 𝒱₀ ER (ringRd m) (c : Thread nD τ) none (dst := (sh 1 c : Thread nD τ)) (κ := K (sh 1 c, none))
      (d := false) (by rw [show (((sh 1 c : Dev nD) : Thread nD τ), SemLoc.reg barS) = kcell (sh 1 c, none) from rfl, duties_bar]; decide) ((amount_at m (sh 1 c) none false).trans (by decide)) () (owed c (rem 2)) (owed_cons c (1, none) (rem 2)))
    $$ [HO Ht2 Hg2]
  · isplitr; · iapply (INV_inv m K (sh 1 c, none)); iexact HI
    isplitl [HO]; · iexact HO
    isplitl [Ht2]; · iexact Ht2
    isplitl [Hg2]
    · iapply (show give (F := F) c 0 1 ⊢ (ringRd m).payload (kcell (sh 1 c, none)) 0 false by
        rw [payload_bar]; show give (F := F) c 0 1 ⊢ give (sh 3 (sh 1 c)) 0 1; rw [sh31])
      iexact Hg2
    · iapply (INV_reached m K (sh 1 c, none)); iexact HI
  iintro HO
  iapply (Rounds.wp_wait_rest_token 𝒱₀ ER (ringRd m) (c : Thread nD τ) none (κ := K (c, none))
      (wpE_semWait_eq 𝒱₀ (c : Thread nD τ) none Set.univ) (Set.mem_univ _) () (O := owed c (rem 2)) (W := W) (R := 0) (m := 0) (T := ∅)
      (by rw [show ((c : Thread nD τ), SemLoc.reg barS) = kcell (c, none) from rfl, expect_bar])) $$ [Hc HO Hat]
  · isplitr; · iapply (INV_inv m K (c, none)); iexact HI
    isplitl [Hc]; · iexact Hc
    isplitl [HO]; · iexact HO
    isplitr; · iapply (mayWait (F := F) c (.reg barS) (rem 2) dma_lt_bar); iapply (INV_lev m K); iexact HI
    iexact Hat
  iintro ⟨HO, Hat, -, Hpay⟩
  ihave Hp := (Entails.of_eq (rest_bar m c)) $$ Hpay
  icases Hp with ⟨Hp1, Hp2⟩
  iapply Hk
  isplitl [Hp1]; · iapply (show barPay (F := F) c false ⊢ give (sh 3 c) 0 1 from .rfl); iexact Hp1
  isplitl [Hp2]; · iapply (show barPay (F := F) c true ⊢ give (sh 1 c) 1 0 from .rfl); iexact Hp2
  isplitl [HO]
  · iexists _; iexact HO
  iapply (show iprop(atPos ER (kcell (c, none)) 1 ∅ 0 ∗ Done (F := F) c l) ⊢ Done (F := F) c (none :: l) from .rfl)
  isplitl [Hat]; · iexact Hat
  iexact HD

/-- The rights to all transfers of the first step's kind: down the ring in direction `a`, up in direction `b`. -/
def Toks (c : Dev nD) (a b : Fin 2) : sProp 𝕄 :=
  iprop(SendTok (F := F) c a 0 ∗ SendTok (F := F) c a 1 ∗ SendTok (F := F) c a 2 ∗ SendTok (F := F) c a 3 ∗ SendTok (F := F) c a 8 ∗ SendTok (F := F) c a 9
    ∗ SendTok (F := F) c b 4 ∗ SendTok (F := F) c b 5 ∗ SendTok (F := F) c b 6 ∗ SendTok (F := F) c b 7 ∗ SendTok (F := F) c b 10 ∗ SendTok (F := F) c b 11)
/-- With the neighbour's slots, all of them can run. -/
def Readys (c : Dev nD) (a b : Fin 2) : sProp 𝕄 :=
  iprop(Ready (F := F) c a 0 ∗ Ready (F := F) c a 1 ∗ Ready (F := F) c a 2 ∗ Ready (F := F) c a 3 ∗ Ready (F := F) c a 8 ∗ Ready (F := F) c a 9
    ∗ Ready (F := F) c b 4 ∗ Ready (F := F) c b 5 ∗ Ready (F := F) c b 6 ∗ Ready (F := F) c b 7 ∗ Ready (F := F) c b 10 ∗ Ready (F := F) c b 11)

/-- Rights and slots, side by side. -/
theorem ready (c e : Dev nD) (a b : Fin 2) (ha : ∀ s ∈ [(0 : Fin 12), 1, 2, 3, 8, 9], tgt a s c = e) (hb : ∀ s ∈ [(4 : Fin 12), 5, 6, 7, 10, 11], tgt b s c = e) :
    iprop(Toks (F := F) c a b ∗ give (F := F) e a b) ⊢ Readys (F := F) c a b := by
  have one : ∀ (h : Fin 2) (s : Fin 12), tgt h s c = e → iprop(SendTok (F := F) c h s ∗ Slot (F := F) e h s) ⊢ Ready (F := F) c h s := by
    intro h s ht; subst ht; exact .rfl
  unfold Toks give Readys
  iintro ⟨⟨t0, t1, t2, t3, t8, t9, t4, t5, t6, t7, t10, t11⟩, ⟨g0, g1, g2, g3, g8, g9, g4, g5, g6, g7, g10, g11⟩⟩
  isplitl [t0 g0]; · iapply (one a 0 (ha _ (by decide))); isplitl [t0] <;> iassumption
  isplitl [t1 g1]; · iapply (one a 1 (ha _ (by decide))); isplitl [t1] <;> iassumption
  isplitl [t2 g2]; · iapply (one a 2 (ha _ (by decide))); isplitl [t2] <;> iassumption
  isplitl [t3 g3]; · iapply (one a 3 (ha _ (by decide))); isplitl [t3] <;> iassumption
  isplitl [t8 g8]; · iapply (one a 8 (ha _ (by decide))); isplitl [t8] <;> iassumption
  isplitl [t9 g9]; · iapply (one a 9 (ha _ (by decide))); isplitl [t9] <;> iassumption
  isplitl [t4 g4]; · iapply (one b 4 (hb _ (by decide))); isplitl [t4] <;> iassumption
  isplitl [t5 g5]; · iapply (one b 5 (hb _ (by decide))); isplitl [t5] <;> iassumption
  isplitl [t6 g6]; · iapply (one b 6 (hb _ (by decide))); isplitl [t6] <;> iassumption
  isplitl [t7 g7]; · iapply (one b 7 (hb _ (by decide))); isplitl [t7] <;> iassumption
  isplitl [t10 g10]; · iapply (one b 10 (hb _ (by decide))); isplitl [t10] <;> iassumption
  iapply (one b 11 (hb _ (by decide))); isplitl [t11] <;> iassumption

/-- The slots that a device fills at its left neighbour, -/
theorem tgt_3 (c : Dev nD) : (∀ s ∈ [(0 : Fin 12), 1, 2, 3, 8, 9], tgt 0 s c = sh 3 c) ∧ (∀ s ∈ [(4 : Fin 12), 5, 6, 7, 10, 11], tgt 1 s c = sh 3 c) := by
  revert c; decide
/-- and at its right one. -/
theorem tgt_1 (c : Dev nD) : (∀ s ∈ [(0 : Fin 12), 1, 2, 3, 8, 9], tgt 1 s c = sh 1 c) ∧ (∀ s ∈ [(4 : Fin 12), 5, 6, 7, 10, 11], tgt 0 s c = sh 1 c) := by
  revert c; decide

end Cert.RingMM

end
-- ==== Proof.PartsA.lean ====
/-
The printed parts up to the transfers of the chunk across the ring.
-/
module

public import proofs.«01_k».proof.Proof.Sites

@[expose] public section

set_option backward.proofsInPublic true

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 69) → ℕ)

/-- The 1st printed part: what it takes and what it leaves. -/
theorem part_1 (c : Dev nD) (l : List (Option (Fin 69)))  {Q : (Σ' (d0 : Dev nD) (v2 : BitVec 32) (v4 : BitVec 32) (v6 : BitVec 32) (v8 : BitVec 32) (v10 : BitVec 32), BitVec 32) → sProp 𝕄} :
    INV m K ⊢ iprop(LocTok (F := F) c (iS 0) -∗
      WIn m c -∗
      LocTok (F := F) c (iS (Fin.succ 0)) -∗
      XIn m c (iC 0 c) -∗
      (∀ v2 v4 v6 v8 v10 v12, Fly (F := F) c (iS 0) -∗
        Fly (F := F) c (iS (Fin.succ 0)) -∗ Q ⟨c, v2, v4, v6, v8, v10, v12⟩)
      -∗ WP c (k0_part1 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) Q) := by
  simp only [k0_part1_eq_skeleton]; unfold k0_part1_skel
  simp only [semSignalWord, semWaitWord, Prog.lift, Prog.bind_op, Prog.bind_ret, Prog.pure_eq_ret, Prog.bind_assoc, wp_deviceId]
  iintro #HI Ti_0 Wi Ti_1 Xi_0 Hk
  iapply (step_in_w m K c rfl) $$ HI Ti_0 Wi
  iintro Ni_0
  iapply (step_in_x m K c 0 (Memref.slice_unit_congr xaW (k0_off1_eq c 3) _ _ _ (fun _ => rfl)) (Memref.slice_unit_congr xvW (k0_off1_eq c 3) _ _ _ (fun _ => rfl)) rfl) $$ HI Ti_1 Xi_0
  iintro Ni_1
  iapply step_ret
  iapply Hk $$ Ni_0 Ni_1

/-- The 2nd printed part: what it takes and what it leaves. -/
theorem part_2 (c : Dev nD) (l : List (Option (Fin 69))) (v2 : BitVec 32) (v8 : BitVec 32) {Q : (FVec F S256x1024 .f32) → sProp 𝕄} :
    INV m K ⊢ iprop(LocTok (F := F) c (iS (Fin.succ 1)) -∗
      XIn m c (iC 1 c) -∗
      LocTok (F := F) c (iS (Fin.succ 2)) -∗
      XIn m c (iC 2 c) -∗
      LocTok (F := F) c (iS (Fin.succ 3)) -∗
      XIn m c (iC 3 c) -∗
      Fly (F := F) c (iS 0) -∗
      Fly (F := F) c (iS (Fin.succ 0)) -∗
      St (F := F) c (rem 0) l -∗
      (Fly (F := F) c (iS (Fin.succ 1)) -∗
        Fly (F := F) c (iS (Fin.succ 2)) -∗
        Fly (F := F) c (iS (Fin.succ 3)) -∗
        wPay m c -∗
        xPay m c (iC 0 c) -∗
        St (F := F) c (rem 0) (some (iS (Fin.succ 0)) :: some (iS 0) :: l) -∗ Q (k0_pay1 (xs m c (iC 0 c) 0) (wh m c 0)))
      -∗ WP c (k0_part2 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v8) Q) := by
  simp only [k0_part2_eq_skeleton]; unfold k0_part2_skel
  simp only [semSignalWord, semWaitWord, Prog.lift, Prog.bind_op, Prog.bind_ret, Prog.pure_eq_ret, Prog.bind_assoc, wp_deviceId]
  iintro #HI Ti_2 Xi_1 Ti_3 Xi_2 Ti_4 Xi_3 Ni_0 Ni_1 HS Hk
  iapply (step_in_x m K c 1 (Memref.slice_unit_congr xaW (k0_off1_eq c 1) _ _ _ (fun _ => rfl)) (Memref.slice_unit_congr xvW (k0_off1_eq c 1) _ _ _ (fun _ => rfl)) rfl) $$ HI Ti_2 Xi_1
  iintro Ni_2
  iapply (step_in_x m K c 2 (Memref.slice_unit_congr xaW (k0_off1_eq c 2) _ _ _ (fun _ => rfl)) (Memref.slice_unit_congr xvW (k0_off1_eq c 2) _ _ _ (fun _ => rfl)) rfl) $$ HI Ti_3 Xi_2
  iintro Ni_3
  iapply (step_in_x m K c 3 (Memref.slice_unit_congr xaW (k0_off1_eq c 0) _ _ _ (fun _ => rfl)) (Memref.slice_unit_congr xvW (k0_off1_eq c 0) _ _ _ (fun _ => rfl)) rfl) $$ HI Ti_4 Xi_3
  iintro Ni_4
  iapply (step_wait_w m K c (rem 0) _ rfl (by decide)) $$ HI Ni_0 HS
  iintro ⟨W, HS⟩
  iapply (step_wait_x m K c 0 (rem 0) _ rfl (Memref.slice_unit_congr xvW (k0_off1_eq c 3) _ _ _ (fun _ => rfl)) (by decide)) $$ HI Ni_1 HS
  iintro ⟨X_0, HS⟩
  iapply (step_load_xh m c (iC 0 c) 0 (k0_off2_eq c 1 0)) $$ X_0
  iintro X_0
  iapply (step_load_w m c 0 rfl) $$ W
  iintro W
  iapply step_ret
  iapply Hk $$ Ni_2 Ni_3 Ni_4 W X_0 HS

/-- The 3rd printed part: what it takes and what it leaves. -/
theorem part_3 (c : Dev nD) (l : List (Option (Fin 69))) (v4 : BitVec 32) (v6 : BitVec 32) (v8 : BitVec 32) (v10 : BitVec 32) {Q : (Σ' (v86 : BitVec 32), BitVec 32) → sProp 𝕄} :
    INV m K ⊢ iprop(AccE (F := F) c (dn 0 c) 0 0 -∗
      Fly (F := F) c (iS (Fin.succ 1)) -∗
      wPay m c -∗
      AccE (F := F) c (dn 1 c) 0 1 -∗
      BarTok (F := F) c -∗
      give (F := F) c 1 0 -∗
      give (F := F) c 0 1 -∗
      St (F := F) c (rem 0) l -∗
      (∀ r, sendPay m c 0 0 -∗
        xPay m c (iC 1 c) -∗
        wPay m c -∗
        sendPay m c 1 0 -∗
        give (F := F) (sh 3 c) 0 1 -∗
        give (F := F) (sh 1 c) 1 0 -∗
        St (F := F) c (rem 2) (none :: some (iS (Fin.succ 1)) :: l) -∗ Q r)
      -∗ WP c (k0_part3 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6 v8 v10 (k0_pay1 (xs m c (iC 0 c) 0) (wh m c 0))) Q) := by
  simp only [k0_part3_eq_skeleton]; unfold k0_part3_skel
  simp only [semSignalWord, semWaitWord, Prog.lift, Prog.bind_op, Prog.bind_ret, Prog.pure_eq_ret, Prog.bind_assoc, wp_deviceId]
  iintro #HI E_0_0 Ni_2 W E_1_0 Bar g10 g01 HS Hk
  iapply (step_store_accE c (dn 0 c) 0 0 (k0_off3_eq c 1 0)) $$ E_0_0
  iintro a
  ihave S_0_0 := (show _ ⊢ sendPay m c 0 0 from src_0 m c 0 0 (W := (k0_pay2 (k0_pay1 (xs m c (iC 0 c) 0) (wh m c 0)))) rfl) $$ a
  iapply (step_wait_x m K c 1 (rem 0) _ rfl (Memref.slice_unit_congr xvW (k0_off1_eq c 1) _ _ _ (fun _ => rfl)) (by decide)) $$ HI Ni_2 HS
  iintro ⟨X_1, HS⟩
  iapply (step_load_xh m c (iC 1 c) 0 (k0_off2_eq c 0 0)) $$ X_1
  iintro X_1
  iapply (step_load_w m c 1 rfl) $$ W
  iintro W
  iapply (step_store_accE c (dn 1 c) 0 1 (k0_off4_eq c 0 0)) $$ E_1_0
  iintro a
  ihave S_1_0 := (show _ ⊢ sendPay m c 1 0 from src_0 m c 1 0 (W := (k0_pay3 (xs m c (iC 1 c) 0) (wh m c 1))) rfl) $$ a
  iapply (step_barrier m K c _ (Fin.ext (k0_dev1_eq c)) (Fin.ext (k0_dev2_eq c)) (by decide) (by decide) (by decide)) $$ HI Bar g10 g01 HS
  iintro ⟨g3, g1, HS⟩
  iapply step_ret
  iapply Hk $$ S_0_0 X_1 W S_1_0 g3 g1 HS

/-- The 4th printed part: what it takes and what it leaves. -/
theorem part_4 (c : Dev nD) (l : List (Option (Fin 69))) (v4 : BitVec 32) (v8 : BitVec 32) (v10 : BitVec 32) (v86 : BitVec 32) (c0_i32_68 : BitVec 32) {Q : (Σ' (v115 : BitVec 32), FVec F S256x1024 .f32) → sProp 𝕄} :
    INV m K ⊢ iprop(Ready (F := F) c 0 0 -∗
      sendPay m c 0 0 -∗
      Ready (F := F) c 1 0 -∗
      sendPay m c 1 0 -∗
      xPay m c (iC 0 c) -∗
      wPay m c -∗
      AccE (F := F) c (dn 0 c) 1 0 -∗
      xPay m c (iC 1 c) -∗
      St (F := F) c (rem 2) l -∗
      (∀ v, Fly (F := F) c (sS 0 0) -∗
        Fly (F := F) c (sS 1 0) -∗
        xPay m c (iC 0 c) -∗
        wPay m c -∗
        sendPay m c 0 1 -∗
        xPay m c (iC 1 c) -∗
        St (F := F) c (rem 4) (l) -∗ Q ⟨v, (k0_pay5 (xs m c (iC 1 c) 1) (wh m c 1))⟩)
      -∗ WP c (k0_part4 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v8 v10 v86 c0_i32_68) Q) := by
  simp only [k0_part4_eq_skeleton]; unfold k0_part4_skel
  simp only [semSignalWord, semWaitWord, Prog.lift, Prog.bind_op, Prog.bind_ret, Prog.pure_eq_ret, Prog.bind_assoc, wp_deviceId]
  iintro #HI Y_0_0 S_0_0 Y_1_0 S_1_0 X_0 W E_0_1 X_1 HS Hk
  iapply (step_go m K c 0 0 (rem 3) (Memref.slice_unit_congr accW (k0_off5_eq c 2 0) _ _ _ (fun _ => rfl)) (Fin.ext (k0_dev3_eq c)) rfl rfl rfl rfl (P := rem 2)) $$ HI Y_0_0 S_0_0 HS
  iintro ⟨G_0_0, HS⟩
  iapply (step_go m K c 1 0 (rem 4) (Memref.slice_unit_congr accW (k0_off6_eq c 0 0) _ _ _ (fun _ => rfl)) (Fin.ext (k0_dev4_eq c)) rfl rfl rfl rfl (P := rem 3)) $$ HI Y_1_0 S_1_0 HS
  iintro ⟨G_1_0, HS⟩
  iapply (step_load_xh m c (iC 0 c) 1 (k0_off2_eq c 1 1)) $$ X_0
  iintro X_0
  iapply (step_load_w m c 0 rfl) $$ W
  iintro W
  iapply (step_store_accE c (dn 0 c) 1 0 (k0_off3_eq c 1 1)) $$ E_0_1
  iintro a
  ihave S_0_1 := (show _ ⊢ sendPay m c 0 1 from src_0 m c 0 1 (W := (k0_pay4 (xs m c (iC 0 c) 1) (wh m c 0))) rfl) $$ a
  iapply (step_load_xh m c (iC 1 c) 1 (k0_off2_eq c 0 1)) $$ X_1
  iintro X_1
  iapply (step_load_w m c 1 rfl) $$ W
  iintro W
  iapply step_ret
  iapply Hk $$ G_0_0 G_1_0 X_0 W S_0_1 X_1 HS

/-- The 5th printed part: what it takes and what it leaves. -/
theorem part_5 (c : Dev nD) (l : List (Option (Fin 69))) (v4 : BitVec 32) (v6 : BitVec 32) (v8 : BitVec 32) (v10 : BitVec 32) (v12 : BitVec 32) (v115 : BitVec 32) {Q : (BitVec 32) → sProp 𝕄} :
    INV m K ⊢ iprop(AccE (F := F) c (dn 1 c) 1 1 -∗
      Ready (F := F) c 0 1 -∗
      sendPay m c 0 1 -∗
      Ready (F := F) c 1 1 -∗
      Fly (F := F) c (iS (Fin.succ 2)) -∗
      St (F := F) c (rem 4) l -∗
      (∀ r, Fly (F := F) c (sS 0 1) -∗
        Fly (F := F) c (sS 1 1) -∗
        xPay m c (iC 2 c) -∗
        St (F := F) c (rem 6) (some (iS (Fin.succ 2)) :: l) -∗ Q r)
      -∗ WP c (k0_part5 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6 v8 v10 v12 v115 (k0_pay5 (xs m c (iC 1 c) 1) (wh m c 1))) Q) := by
  simp only [k0_part5_eq_skeleton]; unfold k0_part5_skel
  simp only [semSignalWord, semWaitWord, Prog.lift, Prog.bind_op, Prog.bind_ret, Prog.pure_eq_ret, Prog.bind_assoc, wp_deviceId]
  iintro #HI E_1_1 Y_0_1 S_0_1 Y_1_1 Ni_3 HS Hk
  iapply (step_store_accE c (dn 1 c) 1 1 (k0_off4_eq c 0 1)) $$ E_1_1
  iintro a
  ihave S_1_1 := (show _ ⊢ sendPay m c 1 1 from src_0 m c 1 1 (W := (k0_pay6 (k0_pay5 (xs m c (iC 1 c) 1) (wh m c 1)))) rfl) $$ a
  iapply (step_go m K c 0 1 (rem 5) (Memref.slice_unit_congr accW (k0_off5_eq c 2 1) _ _ _ (fun _ => rfl)) (Fin.ext (k0_dev5_eq c)) rfl rfl rfl rfl (P := rem 4)) $$ HI Y_0_1 S_0_1 HS
  iintro ⟨G_0_1, HS⟩
  iapply (step_go m K c 1 1 (rem 6) (Memref.slice_unit_congr accW (k0_off6_eq c 0 1) _ _ _ (fun _ => rfl)) (Fin.ext (k0_dev6_eq c)) rfl rfl rfl rfl (P := rem 5)) $$ HI Y_1_1 S_1_1 HS
  iintro ⟨G_1_1, HS⟩
  iapply (step_wait_x m K c 2 (rem 6) _ rfl (Memref.slice_unit_congr xvW (k0_off1_eq c 2) _ _ _ (fun _ => rfl)) (by decide)) $$ HI Ni_3 HS
  iintro ⟨X_2, HS⟩
  iapply step_ret
  iapply Hk $$ G_0_1 G_1_1 X_2 HS

/-- The 6th printed part: what it takes and what it leaves. -/
theorem part_6 (c : Dev nD) (l : List (Option (Fin 69))) (v4 : BitVec 32) (v12 : BitVec 32) (v150 : BitVec 32) {Q : (BitVec 32) → sProp 𝕄} :
    INV m K ⊢ iprop(xPay m c (iC 2 c) -∗
      wPay m c -∗
      Acc5E (F := F) c (opp c) 0 -∗
      Acc5E (F := F) c (opp c) 1 -∗
      Ready (F := F) c 0 4 -∗
      St (F := F) c (rem 6) l -∗
      (∀ r, xPay m c (iC 2 c) -∗
        wPay m c -∗
        sendPay m c 0 5 -∗
        sendPay m c 1 4 -∗
        sendPay m c 1 5 -∗
        Fly (F := F) c (sS 0 4) -∗
        St (F := F) c (rem 7) (l) -∗ Q r)
      -∗ WP c (k0_part6 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v12 v150) Q) := by
  simp only [k0_part6_eq_skeleton]; unfold k0_part6_skel
  simp only [semSignalWord, semWaitWord, Prog.lift, Prog.bind_op, Prog.bind_ret, Prog.pure_eq_ret, Prog.bind_assoc, wp_deviceId]
  iintro #HI X_2 W F_0_1 F_1_1 Y_0_4 HS Hk
  iapply (step_load_x5 m c (iC 2 c) (k0_off7_eq c 1)) $$ X_2
  iintro X_2
  iapply (step_load_w m c 0 rfl) $$ W
  iintro W
  iapply (step_store_acc5 c (opp c) 0 (k0_off8_eq c 1)) $$ F_0_1
  iintro ⟨a, b⟩
  ihave S_0_4 := (show _ ⊢ sendPay m c 0 4 from src_2 m c 0 0 (W := sub 0 (k0_pay7 (x5 m c (iC 2 c)) (wh m c 0))) rfl) $$ a
  ihave S_0_5 := (show _ ⊢ sendPay m c 0 5 from src_2 m c 0 1 (W := sub 1 (k0_pay7 (x5 m c (iC 2 c)) (wh m c 0))) rfl) $$ b
  iapply (step_load_x5 m c (iC 2 c) (k0_off7_eq c 1)) $$ X_2
  iintro X_2
  iapply (step_load_w m c 1 rfl) $$ W
  iintro W
  iapply (step_store_acc5 c (opp c) 1 (k0_off9_eq c 0)) $$ F_1_1
  iintro ⟨a, b⟩
  ihave S_1_4 := (show _ ⊢ sendPay m c 1 4 from src_2 m c 1 0 (W := sub 0 (k0_pay8 (x5 m c (iC 2 c)) (wh m c 1))) rfl) $$ a
  ihave S_1_5 := (show _ ⊢ sendPay m c 1 5 from src_2 m c 1 1 (W := sub 1 (k0_pay8 (x5 m c (iC 2 c)) (wh m c 1))) rfl) $$ b
  iapply (step_go m K c 0 4 (rem 7) (Memref.slice_unit_congr accW (k0_off5_eq c 1 0) _ _ _ (fun _ => rfl)) (Fin.ext (k0_dev7_eq c)) rfl rfl rfl rfl (P := rem 6)) $$ HI Y_0_4 S_0_4 HS
  iintro ⟨G_0_4, HS⟩
  iapply step_ret
  iapply Hk $$ X_2 W S_0_5 S_1_4 S_1_5 G_0_4 HS

/-- The 7th printed part: what it takes and what it leaves. -/
theorem part_7 (c : Dev nD) (l : List (Option (Fin 69))) (v4 : BitVec 32) (v6 : BitVec 32) (v12 : BitVec 32) (c1_i32_142 : BitVec 32) {Q : (PUnit) → sProp 𝕄} :
    INV m K ⊢ iprop(Ready (F := F) c 1 4 -∗
      sendPay m c 1 4 -∗
      Ready (F := F) c 0 5 -∗
      sendPay m c 0 5 -∗
      Ready (F := F) c 1 5 -∗
      sendPay m c 1 5 -∗
      St (F := F) c (rem 7) l -∗
      (∀ r, Fly (F := F) c (sS 1 4) -∗
        Fly (F := F) c (sS 0 5) -∗
        Fly (F := F) c (sS 1 5) -∗
        St (F := F) c (rem 10) (l) -∗ Q r)
      -∗ WP c (k0_part7 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6 v12 c1_i32_142) Q) := by
  simp only [k0_part7_eq_skeleton]; unfold k0_part7_skel
  simp only [semSignalWord, semWaitWord, Prog.lift, Prog.bind_op, Prog.bind_ret, Prog.pure_eq_ret, Prog.bind_assoc, wp_deviceId]
  iintro #HI Y_1_4 S_1_4 Y_0_5 S_0_5 Y_1_5 S_1_5 HS Hk
  iapply (step_go m K c 1 4 (rem 8) (Memref.slice_unit_congr accW (k0_off6_eq c 1 0) _ _ _ (fun _ => rfl)) (Fin.ext (k0_dev8_eq c)) rfl rfl rfl rfl (P := rem 7)) $$ HI Y_1_4 S_1_4 HS
  iintro ⟨G_1_4, HS⟩
  iapply (step_go m K c 0 5 (rem 9) (Memref.slice_unit_congr accW (k0_off5_eq c 1 1) _ _ _ (fun _ => rfl)) (Fin.ext (k0_dev9_eq c)) rfl rfl rfl rfl (P := rem 8)) $$ HI Y_0_5 S_0_5 HS
  iintro ⟨G_0_5, HS⟩
  iapply (step_go m K c 1 5 (rem 10) (Memref.slice_unit_congr accW (k0_off6_eq c 1 1) _ _ _ (fun _ => rfl)) (Fin.ext (k0_dev10_eq c)) rfl rfl rfl rfl (P := rem 9)) $$ HI Y_1_5 S_1_5 HS
  iintro ⟨G_1_5, HS⟩
  iapply step_ret
  iapply Hk $$ G_1_4 G_0_5 G_1_5 HS

end Cert.RingMM

end
-- ==== Proof.PartsB.lean ====
/-
The printed parts that add what has landed.
-/
module

public import proofs.«01_k».proof.Proof.Sites

@[expose] public section

set_option backward.proofsInPublic true

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 69) → ℕ)

/-- The 8th printed part: what it takes and what it leaves. -/
theorem part_8 (c : Dev nD) (l : List (Option (Fin 69))) (v2 : BitVec 32) (v8 : BitVec 32) (v10 : BitVec 32) {Q : (Σ' (v243 : BitVec 32), Vec F S512x512 .f32) → sProp 𝕄} :
    INV m K ⊢ iprop(Fly (F := F) c (iS (Fin.succ 3)) -∗
      wPay m c -∗
      Acc5E (F := F) c (c) 0 -∗
      Acc5E (F := F) c (c) 1 -∗
      xPay m c (iC 1 c) -∗
      Acc5E (F := F) c (up 0 c) 0 -∗
      xPay m c (iC 0 c) -∗
      St (F := F) c (rem 10) l -∗
      (∀ v, xPay m c (iC 3 c) -∗
        wPay m c -∗
        ownsTc c (accP c 0 0) fullShare (sub 0 (P5 m c c 0)) -∗
        ownsTc c (accP c 1 0) fullShare (sub 1 (P5 m c c 0)) -∗
        ownsTc c (accP c 0 1) fullShare (sub 0 (P5 m c c 1)) -∗
        ownsTc c (accP c 1 1) fullShare (sub 1 (P5 m c c 1)) -∗
        xPay m c (iC 1 c) -∗
        ownsTc c (accP (up 0 c) 0 0) fullShare (sub 0 (P5 m c (up 0 c) 0)) -∗
        ownsTc c (accP (up 0 c) 1 0) fullShare (sub 1 (P5 m c (up 0 c) 0)) -∗
        xPay m c (iC 0 c) -∗
        St (F := F) c (rem 10) (some (iS (Fin.succ 3)) :: l) -∗ Q ⟨v, (x5 m c (iC 0 c))⟩)
      -∗ WP c (k0_part8 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v8 v10) Q) := by
  simp only [k0_part8_eq_skeleton]; unfold k0_part8_skel
  simp only [semSignalWord, semWaitWord, Prog.lift, Prog.bind_op, Prog.bind_ret, Prog.pure_eq_ret, Prog.bind_assoc, wp_deviceId]
  iintro #HI Ni_4 W F_0_0 F_1_0 X_1 F_0_2 X_0 HS Hk
  iapply (step_wait_x m K c 3 (rem 10) _ rfl (Memref.slice_unit_congr xvW (k0_off1_eq c 0) _ _ _ (fun _ => rfl)) (by decide)) $$ HI Ni_4 HS
  iintro ⟨X_3, HS⟩
  iapply (step_load_x5 m c (iC 3 c) (at_x3 c)) $$ X_3
  iintro X_3
  iapply (step_load_w m c 0 rfl) $$ W
  iintro W
  iapply (step_store_acc5 c c 0 (k0_off11_eq c)) $$ F_0_0
  iintro ⟨a, b⟩
  ihave B_0_0 := (recast c _ (X := sub 0 (k0_pay9 (x5 m c (iC 3 c)) (wh m c 0))) (congrArg (sub 0) (P5_own m c 0)) (Y := sub 0 (P5 m c c 0))) $$ a
  ihave B_0_1 := (recast c _ (X := sub 1 (k0_pay9 (x5 m c (iC 3 c)) (wh m c 0))) (congrArg (sub 1) (P5_own m c 0)) (Y := sub 1 (P5 m c c 0))) $$ b
  iapply (step_load_x5 m c (iC 3 c) (at_x3 c)) $$ X_3
  iintro X_3
  iapply (step_load_w m c 1 rfl) $$ W
  iintro W
  iapply (step_store_acc5 c c 1 (k0_off12_eq c)) $$ F_1_0
  iintro ⟨a, b⟩
  ihave B_1_0 := (recast c _ (X := sub 0 (k0_pay10 (x5 m c (iC 3 c)) (wh m c 1))) (congrArg (sub 0) (P5_own m c 1)) (Y := sub 0 (P5 m c c 1))) $$ a
  ihave B_1_1 := (recast c _ (X := sub 1 (k0_pay10 (x5 m c (iC 3 c)) (wh m c 1))) (congrArg (sub 1) (P5_own m c 1)) (Y := sub 1 (P5 m c c 1))) $$ b
  iapply (step_load_x5 m c (iC 1 c) (k0_off7_eq c 0)) $$ X_1
  iintro X_1
  iapply (step_load_w m c 0 rfl) $$ W
  iintro W
  iapply (step_store_acc5 c (up 0 c) 0 (k0_off8_eq c 0)) $$ F_0_2
  iintro ⟨a, b⟩
  ihave U_0_0 := (recast c _ (X := sub 0 (k0_pay11 (x5 m c (iC 1 c)) (wh m c 0))) rfl (Y := sub 0 (P5 m c (up 0 c) 0))) $$ a
  ihave U_0_1 := (recast c _ (X := sub 1 (k0_pay11 (x5 m c (iC 1 c)) (wh m c 0))) rfl (Y := sub 1 (P5 m c (up 0 c) 0))) $$ b
  iapply (step_load_x5 m c (iC 0 c) (k0_off7_eq c 2)) $$ X_0
  iintro X_0
  iapply step_ret
  iapply Hk $$ X_3 W B_0_0 B_0_1 B_1_0 B_1_1 X_1 U_0_0 U_0_1 X_0 HS

/-- The 9th printed part: what it takes and what it leaves. -/
theorem part_9 (c : Dev nD) (l : List (Option (Fin 69))) (v4 : BitVec 32) (v6 : BitVec 32) (v243 : BitVec 32) {Q : (PUnit) → sProp 𝕄} :
    INV m K ⊢ iprop(wPay m c -∗
      Acc5E (F := F) c (up 1 c) 1 -∗
      Fly (F := F) c (sS 0 0) -∗
      Fly (F := F) c (rS 0 0) -∗
      Fly (F := F) c (sS 1 0) -∗
      St (F := F) c (rem 10) l -∗
      (∀ r, wPay m c -∗
        ownsTc c (accP (up 1 c) 0 1) fullShare (sub 0 (P5 m c (up 1 c) 1)) -∗
        ownsTc c (accP (up 1 c) 1 1) fullShare (sub 1 (P5 m c (up 1 c) 1)) -∗
        sendPay m c 0 0 -∗
        recvPay m c 0 0 -∗
        sendPay m c 1 0 -∗
        St (F := F) c (rem 10) (some (sS 1 0) :: some (rS 0 0) :: some (sS 0 0) :: l) -∗ Q r)
      -∗ WP c (k0_part9 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6 v243 (x5 m c (iC 0 c))) Q) := by
  simp only [k0_part9_eq_skeleton]; unfold k0_part9_skel
  simp only [semSignalWord, semWaitWord, Prog.lift, Prog.bind_op, Prog.bind_ret, Prog.pure_eq_ret, Prog.bind_assoc, wp_deviceId]
  iintro #HI W F_1_2 G_0_0 N_0_0 G_1_0 HS Hk
  iapply (step_load_w m c 1 rfl) $$ W
  iintro W
  iapply (step_store_acc5 c (up 1 c) 1 (k0_off9_eq c 1)) $$ F_1_2
  iintro ⟨a, b⟩
  ihave U_1_0 := (recast c _ (X := sub 0 (k0_pay12 (x5 m c (iC 0 c)) (wh m c 1))) rfl (Y := sub 0 (P5 m c (up 1 c) 1))) $$ a
  ihave U_1_1 := (recast c _ (X := sub 1 (k0_pay12 (x5 m c (iC 0 c)) (wh m c 1))) rfl (Y := sub 1 (P5 m c (up 1 c) 1))) $$ b
  iapply (step_wait_send m K c 0 0 (rem 10) _ rfl (Memref.slice_unit_congr accW (k0_off5_eq c 2 0) _ _ _ (fun _ => rfl)) (by decide)) $$ HI G_0_0 HS
  iintro ⟨Z_0_0, HS⟩
  iapply (step_wait_recv m K c 0 0 (rem 10) _ rfl rfl (by decide)) $$ HI N_0_0 HS
  iintro ⟨R_0_0, HS⟩
  iapply (step_wait_send m K c 1 0 (rem 10) _ rfl (Memref.slice_unit_congr accW (k0_off6_eq c 0 0) _ _ _ (fun _ => rfl)) (by decide)) $$ HI G_1_0 HS
  iintro ⟨Z_1_0, HS⟩
  iapply step_ret
  iapply Hk $$ W U_1_0 U_1_1 Z_0_0 R_0_0 Z_1_0 HS

/-- The 10th printed part: what it takes and what it leaves. -/
theorem part_10 (c : Dev nD) (l : List (Option (Fin 69))) (v2 : BitVec 32) {Q : (BitVec 32) → sProp 𝕄} :
    INV m K ⊢ iprop(Fly (F := F) c (rS 1 0) -∗
      ownsTc c (accP c 0 0) fullShare (sub 0 (P5 m c c 0)) -∗
      recvPay m c 0 0 -∗
      ownsTc c (accP c 0 1) fullShare (sub 0 (P5 m c c 1)) -∗
      St (F := F) c (rem 10) l -∗
      (∀ r, recvPay m c 1 0 -∗
        recvPay m c 0 0 -∗
        sendPay m c 0 2 -∗
        sendPay m c 1 2 -∗
        St (F := F) c (rem 10) (some (rS 1 0) :: l) -∗ Q r)
      -∗ WP c (k0_part10 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2) Q) := by
  simp only [k0_part10_eq_skeleton]; unfold k0_part10_skel
  simp only [semSignalWord, semWaitWord, Prog.lift, Prog.bind_op, Prog.bind_ret, Prog.pure_eq_ret, Prog.bind_assoc, wp_deviceId]
  iintro #HI N_1_0 B_0_0 R_0_0 B_1_0 HS Hk
  iapply (step_wait_recv m K c 1 0 (rem 10) _ rfl rfl (by decide)) $$ HI N_1_0 HS
  iintro ⟨R_1_0, HS⟩
  iapply (step_load_acc c c 0 0 (k0_off13_eq c 0)) $$ B_0_0
  iintro B_0_0
  iapply (step_load_slot m c 0 0 rfl rfl) $$ R_0_0
  iintro R_0_0
  iapply (step_load_acc c c 0 0 (k0_off13_eq c 0)) $$ B_0_0
  iintro B_0_0
  iapply (step_store_acc c c 0 0 (k0_off13_eq c 0)) $$ B_0_0
  iintro a
  ihave S_0_2 := (show _ ⊢ sendPay m c 0 2 from src_1 m c 0 0 (W := (k0_pay13 (sub 0 (P5 m c c 0)) (unsq (rcvV m 0 0 c)))) rfl) $$ a
  iapply (step_load_acc c c 0 1 (k0_off14_eq c 0)) $$ B_1_0
  iintro B_1_0
  iapply (step_load_slot m c 1 0 rfl rfl) $$ R_1_0
  iintro R_1_0
  iapply (step_load_acc c c 0 1 (k0_off14_eq c 0)) $$ B_1_0
  iintro B_1_0
  iapply (step_store_acc c c 0 1 (k0_off14_eq c 0)) $$ B_1_0
  iintro a
  ihave S_1_2 := (show _ ⊢ sendPay m c 1 2 from src_1 m c 1 0 (W := (k0_pay14 (sub 0 (P5 m c c 1)) (unsq (rcvV m 1 0 c)))) rfl) $$ a
  iapply step_ret
  iapply Hk $$ R_1_0 R_0_0 S_0_2 S_1_2 HS

/-- The 11th printed part: what it takes and what it leaves. -/
theorem part_11 (c : Dev nD) (l : List (Option (Fin 69))) (v4 : BitVec 32) (v6 : BitVec 32) (v304 : BitVec 32) {Q : (PUnit) → sProp 𝕄} :
    INV m K ⊢ iprop(Ready (F := F) c 0 2 -∗
      sendPay m c 0 2 -∗
      Ready (F := F) c 1 2 -∗
      sendPay m c 1 2 -∗
      Fly (F := F) c (sS 0 1) -∗
      St (F := F) c (rem 10) l -∗
      (∀ r, Fly (F := F) c (sS 0 2) -∗
        Fly (F := F) c (sS 1 2) -∗
        sendPay m c 0 1 -∗
        St (F := F) c (rem 12) (some (sS 0 1) :: l) -∗ Q r)
      -∗ WP c (k0_part11 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6 v304) Q) := by
  simp only [k0_part11_eq_skeleton]; unfold k0_part11_skel
  simp only [semSignalWord, semWaitWord, Prog.lift, Prog.bind_op, Prog.bind_ret, Prog.pure_eq_ret, Prog.bind_assoc, wp_deviceId]
  iintro #HI Y_0_2 S_0_2 Y_1_2 S_1_2 G_0_1 HS Hk
  iapply (step_go m K c 0 2 (rem 11) (Memref.slice_unit_congr accW (k0_off15_eq c 0) _ _ _ (fun _ => rfl)) (Fin.ext (k0_dev11_eq c)) rfl rfl rfl rfl (P := rem 10)) $$ HI Y_0_2 S_0_2 HS
  iintro ⟨G_0_2, HS⟩
  iapply (step_go m K c 1 2 (rem 12) (Memref.slice_unit_congr accW (k0_off16_eq c 0) _ _ _ (fun _ => rfl)) (Fin.ext (k0_dev12_eq c)) rfl rfl rfl rfl (P := rem 11)) $$ HI Y_1_2 S_1_2 HS
  iintro ⟨G_1_2, HS⟩
  iapply (step_wait_send m K c 0 1 (rem 12) _ rfl (Memref.slice_unit_congr accW (k0_off5_eq c 2 1) _ _ _ (fun _ => rfl)) (by decide)) $$ HI G_0_1 HS
  iintro ⟨Z_0_1, HS⟩
  iapply step_ret
  iapply Hk $$ G_0_2 G_1_2 Z_0_1 HS

/-- The 12th printed part: what it takes and what it leaves. -/
theorem part_12 (c : Dev nD) (l : List (Option (Fin 69))) (v2 : BitVec 32) (v4 : BitVec 32) {Q : (BitVec 32) → sProp 𝕄} :
    INV m K ⊢ iprop(Fly (F := F) c (rS 0 1) -∗
      Fly (F := F) c (sS 1 1) -∗
      Fly (F := F) c (rS 1 1) -∗
      ownsTc c (accP c 1 0) fullShare (sub 1 (P5 m c c 0)) -∗
      St (F := F) c (rem 12) l -∗
      (∀ r, recvPay m c 0 1 -∗
        sendPay m c 1 1 -∗
        recvPay m c 1 1 -∗
        sendPay m c 0 3 -∗
        St (F := F) c (rem 12) (some (rS 1 1) :: some (sS 1 1) :: some (rS 0 1) :: l) -∗ Q r)
      -∗ WP c (k0_part12 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v4) Q) := by
  simp only [k0_part12_eq_skeleton]; unfold k0_part12_skel
  simp only [semSignalWord, semWaitWord, Prog.lift, Prog.bind_op, Prog.bind_ret, Prog.pure_eq_ret, Prog.bind_assoc, wp_deviceId]
  iintro #HI N_0_1 G_1_1 N_1_1 B_0_1 HS Hk
  iapply (step_wait_recv m K c 0 1 (rem 12) _ rfl rfl (by decide)) $$ HI N_0_1 HS
  iintro ⟨R_0_1, HS⟩
  iapply (step_wait_send m K c 1 1 (rem 12) _ rfl (Memref.slice_unit_congr accW (k0_off6_eq c 0 1) _ _ _ (fun _ => rfl)) (by decide)) $$ HI G_1_1 HS
  iintro ⟨Z_1_1, HS⟩
  iapply (step_wait_recv m K c 1 1 (rem 12) _ rfl rfl (by decide)) $$ HI N_1_1 HS
  iintro ⟨R_1_1, HS⟩
  iapply (step_load_acc c c 1 0 (k0_off13_eq c 1)) $$ B_0_1
  iintro B_0_1
  iapply (step_load_slot m c 0 1 rfl rfl) $$ R_0_1
  iintro R_0_1
  iapply (step_load_acc c c 1 0 (k0_off13_eq c 1)) $$ B_0_1
  iintro B_0_1
  iapply (step_store_acc c c 1 0 (k0_off13_eq c 1)) $$ B_0_1
  iintro a
  ihave S_0_3 := (show _ ⊢ sendPay m c 0 3 from src_1 m c 0 1 (W := (k0_pay15 (sub 1 (P5 m c c 0)) (unsq (rcvV m 0 1 c)))) rfl) $$ a
  iapply step_ret
  iapply Hk $$ R_0_1 Z_1_1 R_1_1 S_0_3 HS

/-- The 13th printed part: what it takes and what it leaves. -/
theorem part_13 (c : Dev nD) (l : List (Option (Fin 69))) (v2 : BitVec 32) (v4 : BitVec 32) (v6 : BitVec 32) (c512_i32_299 : BitVec 32) {Q : (PUnit) → sProp 𝕄} :
    INV m K ⊢ iprop(ownsTc c (accP c 1 1) fullShare (sub 1 (P5 m c c 1)) -∗
      recvPay m c 1 1 -∗
      Ready (F := F) c 0 3 -∗
      sendPay m c 0 3 -∗
      St (F := F) c (rem 12) l -∗
      (∀ r, recvPay m c 1 1 -∗
        sendPay m c 1 3 -∗
        Fly (F := F) c (sS 0 3) -∗
        St (F := F) c (rem 13) (l) -∗ Q r)
      -∗ WP c (k0_part13 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v4 v6 c512_i32_299) Q) := by
  simp only [k0_part13_eq_skeleton]; unfold k0_part13_skel
  simp only [semSignalWord, semWaitWord, Prog.lift, Prog.bind_op, Prog.bind_ret, Prog.pure_eq_ret, Prog.bind_assoc, wp_deviceId]
  iintro #HI B_1_1 R_1_1 Y_0_3 S_0_3 HS Hk
  iapply (step_load_acc c c 1 1 (k0_off14_eq c 1)) $$ B_1_1
  iintro B_1_1
  iapply (step_load_slot m c 1 1 rfl rfl) $$ R_1_1
  iintro R_1_1
  iapply (step_load_acc c c 1 1 (k0_off14_eq c 1)) $$ B_1_1
  iintro B_1_1
  iapply (step_store_acc c c 1 1 (k0_off14_eq c 1)) $$ B_1_1
  iintro a
  ihave S_1_3 := (show _ ⊢ sendPay m c 1 3 from src_1 m c 1 1 (W := (k0_pay16 (sub 1 (P5 m c c 1)) (unsq (rcvV m 1 1 c)))) rfl) $$ a
  iapply (step_go m K c 0 3 (rem 13) (Memref.slice_unit_congr accW (k0_off15_eq c 1) _ _ _ (fun _ => rfl)) (Fin.ext (k0_dev13_eq c)) rfl rfl rfl rfl (P := rem 12)) $$ HI Y_0_3 S_0_3 HS
  iintro ⟨G_0_3, HS⟩
  iapply step_ret
  iapply Hk $$ R_1_1 S_1_3 G_0_3 HS

/-- The 14th printed part: what it takes and what it leaves. -/
theorem part_14 (c : Dev nD) (l : List (Option (Fin 69))) (v4 : BitVec 32) (v6 : BitVec 32) {Q : (PUnit) → sProp 𝕄} :
    INV m K ⊢ iprop(Ready (F := F) c 1 3 -∗
      sendPay m c 1 3 -∗
      Fly (F := F) c (sS 0 2) -∗
      Fly (F := F) c (rS 0 2) -∗
      Fly (F := F) c (sS 1 2) -∗
      St (F := F) c (rem 13) l -∗
      (∀ r, Fly (F := F) c (sS 1 3) -∗
        sendPay m c 0 2 -∗
        recvPay m c 0 2 -∗
        sendPay m c 1 2 -∗
        St (F := F) c (rem 14) (some (sS 1 2) :: some (rS 0 2) :: some (sS 0 2) :: l) -∗ Q r)
      -∗ WP c (k0_part14 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6) Q) := by
  simp only [k0_part14_eq_skeleton]; unfold k0_part14_skel
  simp only [semSignalWord, semWaitWord, Prog.lift, Prog.bind_op, Prog.bind_ret, Prog.pure_eq_ret, Prog.bind_assoc, wp_deviceId]
  iintro #HI Y_1_3 S_1_3 G_0_2 N_0_2 G_1_2 HS Hk
  iapply (step_go m K c 1 3 (rem 14) (Memref.slice_unit_congr accW (k0_off16_eq c 1) _ _ _ (fun _ => rfl)) (Fin.ext (k0_dev14_eq c)) rfl rfl rfl rfl (P := rem 13)) $$ HI Y_1_3 S_1_3 HS
  iintro ⟨G_1_3, HS⟩
  iapply (step_wait_send m K c 0 2 (rem 14) _ rfl (Memref.slice_unit_congr accW (k0_off15_eq c 0) _ _ _ (fun _ => rfl)) (by decide)) $$ HI G_0_2 HS
  iintro ⟨Z_0_2, HS⟩
  iapply (step_wait_recv m K c 0 2 (rem 14) _ rfl rfl (by decide)) $$ HI N_0_2 HS
  iintro ⟨R_0_2, HS⟩
  iapply (step_wait_send m K c 1 2 (rem 14) _ rfl (Memref.slice_unit_congr accW (k0_off16_eq c 0) _ _ _ (fun _ => rfl)) (by decide)) $$ HI G_1_2 HS
  iintro ⟨Z_1_2, HS⟩
  iapply step_ret
  iapply Hk $$ G_1_3 Z_0_2 R_0_2 Z_1_2 HS

/-- The 15th printed part: what it takes and what it leaves. -/
theorem part_15 (c : Dev nD) (l : List (Option (Fin 69))) (v4 : BitVec 32) (v6 : BitVec 32) {Q : (PUnit) → sProp 𝕄} :
    INV m K ⊢ iprop(Fly (F := F) c (rS 1 2) -∗
      Fly (F := F) c (sS 0 4) -∗
      Fly (F := F) c (rS 0 4) -∗
      Fly (F := F) c (sS 1 4) -∗
      St (F := F) c (rem 14) l -∗
      (∀ r, recvPay m c 1 2 -∗
        sendPay m c 0 4 -∗
        recvPay m c 0 4 -∗
        sendPay m c 1 4 -∗
        St (F := F) c (rem 14) (some (sS 1 4) :: some (rS 0 4) :: some (sS 0 4) :: some (rS 1 2) :: l) -∗ Q r)
      -∗ WP c (k0_part15 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6) Q) := by
  simp only [k0_part15_eq_skeleton]; unfold k0_part15_skel
  simp only [semSignalWord, semWaitWord, Prog.lift, Prog.bind_op, Prog.bind_ret, Prog.pure_eq_ret, Prog.bind_assoc, wp_deviceId]
  iintro #HI N_1_2 G_0_4 N_0_4 G_1_4 HS Hk
  iapply (step_wait_recv m K c 1 2 (rem 14) _ rfl rfl (by decide)) $$ HI N_1_2 HS
  iintro ⟨R_1_2, HS⟩
  iapply (step_wait_send m K c 0 4 (rem 14) _ rfl (Memref.slice_unit_congr accW (k0_off5_eq c 1 0) _ _ _ (fun _ => rfl)) (by decide)) $$ HI G_0_4 HS
  iintro ⟨Z_0_4, HS⟩
  iapply (step_wait_recv m K c 0 4 (rem 14) _ rfl rfl (by decide)) $$ HI N_0_4 HS
  iintro ⟨R_0_4, HS⟩
  iapply (step_wait_send m K c 1 4 (rem 14) _ rfl (Memref.slice_unit_congr accW (k0_off6_eq c 1 0) _ _ _ (fun _ => rfl)) (by decide)) $$ HI G_1_4 HS
  iintro ⟨Z_1_4, HS⟩
  iapply step_ret
  iapply Hk $$ R_1_2 Z_0_4 R_0_4 Z_1_4 HS

/-- The 16th printed part: what it takes and what it leaves. -/
theorem part_16 (c : Dev nD) (l : List (Option (Fin 69))) (v8 : BitVec 32) (v10 : BitVec 32) {Q : (Σ' (v473 : FVec F S256x1024 .f32), BitVec 32) → sProp 𝕄} :
    INV m K ⊢ iprop(Fly (F := F) c (rS 1 4) -∗
      ownsTc c (accP (up 0 c) 0 0) fullShare (sub 0 (P5 m c (up 0 c) 0)) -∗
      recvPay m c 0 2 -∗
      recvPay m c 0 4 -∗
      ownsTc c (accP (up 1 c) 0 1) fullShare (sub 0 (P5 m c (up 1 c) 1)) -∗
      recvPay m c 1 2 -∗
      St (F := F) c (rem 14) l -∗
      (∀ v, recvPay m c 1 4 -∗
        recvPay m c 0 2 -∗
        recvPay m c 0 4 -∗
        sendPay m c 0 6 -∗
        sendPay m c 0 8 -∗
        outSrc m c 0 -∗
        ownsTc c (accP (up 1 c) 0 1) fullShare (sub 0 (P5 m c (up 1 c) 1)) -∗
        recvPay m c 1 2 -∗
        St (F := F) c (rem 14) (some (rS 1 4) :: l) -∗ Q ⟨(k0_pay18 (sub 0 (P5 m c (up 1 c) 1)) (unsq (rcvV m 1 2 c)) (unsq (rcvV m 1 4 c))), v⟩)
      -∗ WP c (k0_part16 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v8 v10) Q) := by
  simp only [k0_part16_eq_skeleton]; unfold k0_part16_skel
  simp only [semSignalWord, semWaitWord, Prog.lift, Prog.bind_op, Prog.bind_ret, Prog.pure_eq_ret, Prog.bind_assoc, wp_deviceId]
  iintro #HI N_1_4 U_0_0 R_0_2 R_0_4 U_1_0 R_1_2 HS Hk
  iapply (step_wait_recv m K c 1 4 (rem 14) _ rfl rfl (by decide)) $$ HI N_1_4 HS
  iintro ⟨R_1_4, HS⟩
  iapply (step_load_acc c (up 0 c) 0 0 (k0_off3_eq c 0 0)) $$ U_0_0
  iintro U_0_0
  iapply (step_load_slot m c 0 2 rfl rfl) $$ R_0_2
  iintro R_0_2
  iapply (step_load_slot m c 0 4 rfl rfl) $$ R_0_4
  iintro R_0_4
  iapply (step_load_acc c (up 0 c) 0 0 (k0_off3_eq c 0 0)) $$ U_0_0
  iintro U_0_0
  iapply (step_store_acc c (up 0 c) 0 0 (k0_off3_eq c 0 0)) $$ U_0_0
  iintro a
  icases (show _ ⊢ iprop(sendPay m c 0 6 ∗ sendPay m c 0 8 ∗ outSrc m c 0) from src_34 m c 0 0 (W := (k0_pay17 (sub 0 (P5 m c (up 0 c) 0)) (unsq (rcvV m 0 2 c)) (unsq (rcvV m 0 4 c)))) (VR_up m c 0 0)) $$ a with ⟨S_0_6, S_0_8, O_0⟩
  iapply (step_load_acc c (up 1 c) 0 1 (k0_off4_eq c 1 0)) $$ U_1_0
  iintro U_1_0
  iapply (step_load_slot m c 1 2 rfl rfl) $$ R_1_2
  iintro R_1_2
  iapply (step_load_slot m c 1 4 rfl rfl) $$ R_1_4
  iintro R_1_4
  iapply step_ret
  iapply Hk $$ R_1_4 R_0_2 R_0_4 S_0_6 S_0_8 O_0 U_1_0 R_1_2 HS

/-- The 17th printed part: what it takes and what it leaves. -/
theorem part_17 (c : Dev nD) (l : List (Option (Fin 69))) (v4 : BitVec 32) (v6 : BitVec 32) (v8 : BitVec 32) (v10 : BitVec 32) (v475 : BitVec 32) {Q : (PUnit) → sProp 𝕄} :
    INV m K ⊢ iprop(ownsTc c (accP (up 1 c) 0 1) fullShare (sub 0 (P5 m c (up 1 c) 1)) -∗
      Ready (F := F) c 0 6 -∗
      sendPay m c 0 6 -∗
      Ready (F := F) c 1 6 -∗
      St (F := F) c (rem 14) l -∗
      (∀ r, sendPay m c 1 8 -∗
        outSrc m c 1 -∗
        Fly (F := F) c (sS 0 6) -∗
        Fly (F := F) c (sS 1 6) -∗
        St (F := F) c (rem 16) (l) -∗ Q r)
      -∗ WP c (k0_part17 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6 v8 v10 (k0_pay18 (sub 0 (P5 m c (up 1 c) 1)) (unsq (rcvV m 1 2 c)) (unsq (rcvV m 1 4 c))) v475) Q) := by
  simp only [k0_part17_eq_skeleton]; unfold k0_part17_skel
  simp only [semSignalWord, semWaitWord, Prog.lift, Prog.bind_op, Prog.bind_ret, Prog.pure_eq_ret, Prog.bind_assoc, wp_deviceId]
  iintro #HI U_1_0 Y_0_6 S_0_6 Y_1_6 HS Hk
  iapply (step_load_acc c (up 1 c) 0 1 (k0_off4_eq c 1 0)) $$ U_1_0
  iintro U_1_0
  iapply (step_store_acc c (up 1 c) 0 1 (k0_off4_eq c 1 0)) $$ U_1_0
  iintro a
  icases (show _ ⊢ iprop(sendPay m c 1 6 ∗ sendPay m c 1 8 ∗ outSrc m c 1) from src_34 m c 1 0 (W := (k0_pay19 (k0_pay18 (sub 0 (P5 m c (up 1 c) 1)) (unsq (rcvV m 1 2 c)) (unsq (rcvV m 1 4 c))))) (VR_up m c 0 1)) $$ a with ⟨S_1_6, S_1_8, O_1⟩
  iapply (step_go m K c 0 6 (rem 15) (Memref.slice_unit_congr accW (k0_off5_eq c 0 0) _ _ _ (fun _ => rfl)) (Fin.ext (k0_dev15_eq c)) rfl rfl rfl rfl (P := rem 14)) $$ HI Y_0_6 S_0_6 HS
  iintro ⟨G_0_6, HS⟩
  iapply (step_go m K c 1 6 (rem 16) (Memref.slice_unit_congr accW (k0_off6_eq c 2 0) _ _ _ (fun _ => rfl)) (Fin.ext (k0_dev16_eq c)) rfl rfl rfl rfl (P := rem 15)) $$ HI Y_1_6 S_1_6 HS
  iintro ⟨G_1_6, HS⟩
  iapply step_ret
  iapply Hk $$ S_1_8 O_1 G_0_6 G_1_6 HS

/-- The 18th printed part: what it takes and what it leaves. -/
theorem part_18 (c : Dev nD) (l : List (Option (Fin 69))) (v4 : BitVec 32) (v6 : BitVec 32) (v8 : BitVec 32) (v10 : BitVec 32) {Q : (PUnit) → sProp 𝕄} :
    INV m K ⊢ iprop(Ready (F := F) c 0 8 -∗
      sendPay m c 0 8 -∗
      Ready (F := F) c 1 8 -∗
      sendPay m c 1 8 -∗
      outSrc m c 0 -∗
      LocTok (F := F) c (oS 0) -∗
      OutE (F := F) c 0 -∗
      St (F := F) c (rem 16) l -∗
      (∀ r, Fly (F := F) c (sS 0 8) -∗
        Fly (F := F) c (sS 1 8) -∗
        Fly (F := F) c (oS 0) -∗
        St (F := F) c (rem 18) (l) -∗ Q r)
      -∗ WP c (k0_part18 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6 v8 v10) Q) := by
  simp only [k0_part18_eq_skeleton]; unfold k0_part18_skel
  simp only [semSignalWord, semWaitWord, Prog.lift, Prog.bind_op, Prog.bind_ret, Prog.pure_eq_ret, Prog.bind_assoc, wp_deviceId]
  iintro #HI Y_0_8 S_0_8 Y_1_8 S_1_8 O_0 To_0 Oe_0 HS Hk
  iapply (step_go m K c 0 8 (rem 17) (Memref.slice_unit_congr accW (k0_off5_eq c 0 0) _ _ _ (fun _ => rfl)) (Fin.ext (k0_dev17_eq c)) rfl rfl rfl rfl (P := rem 16)) $$ HI Y_0_8 S_0_8 HS
  iintro ⟨G_0_8, HS⟩
  iapply (step_go m K c 1 8 (rem 18) (Memref.slice_unit_congr accW (k0_off6_eq c 2 0) _ _ _ (fun _ => rfl)) (Fin.ext (k0_dev18_eq c)) rfl rfl rfl rfl (P := rem 17)) $$ HI Y_1_8 S_1_8 HS
  iintro ⟨G_1_8, HS⟩
  iapply (step_out m K c 0 (Memref.slice_unit_congr accW (k0_off5_eq c 0 0) _ _ _ (fun _ => rfl)) (Memref.slice_unit_congr outW (k0_off5_eq c 0 0) _ _ _ (fun _ => rfl)) rfl) $$ HI To_0 O_0 Oe_0
  iintro No_0
  iapply step_ret
  iapply Hk $$ G_0_8 G_1_8 No_0 HS

end Cert.RingMM

end
-- ==== Proof.PartsC.lean ====
/-
The printed parts that finish, pass on and copy out.
-/
module

public import proofs.«01_k».proof.Proof.Sites

@[expose] public section

set_option backward.proofsInPublic true

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 69) → ℕ)

/-- The 19th printed part: what it takes and what it leaves. -/
theorem part_19 (c : Dev nD) (l : List (Option (Fin 69))) (v4 : BitVec 32) (v6 : BitVec 32) {Q : (PUnit) → sProp 𝕄} :
    INV m K ⊢ iprop(outSrc m c 1 -∗
      LocTok (F := F) c (oS 1) -∗
      OutE (F := F) c 1 -∗
      Fly (F := F) c (sS 0 3) -∗
      Fly (F := F) c (rS 0 3) -∗
      Fly (F := F) c (sS 1 3) -∗
      St (F := F) c (rem 18) l -∗
      (∀ r, Fly (F := F) c (oS 1) -∗
        sendPay m c 0 3 -∗
        recvPay m c 0 3 -∗
        sendPay m c 1 3 -∗
        St (F := F) c (rem 18) (some (sS 1 3) :: some (rS 0 3) :: some (sS 0 3) :: l) -∗ Q r)
      -∗ WP c (k0_part19 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6) Q) := by
  simp only [k0_part19_eq_skeleton]; unfold k0_part19_skel
  simp only [semSignalWord, semWaitWord, Prog.lift, Prog.bind_op, Prog.bind_ret, Prog.pure_eq_ret, Prog.bind_assoc, wp_deviceId]
  iintro #HI O_1 To_1 Oe_1 G_0_3 N_0_3 G_1_3 HS Hk
  iapply (step_out m K c 1 (Memref.slice_unit_congr accW (k0_off6_eq c 2 0) _ _ _ (fun _ => rfl)) (Memref.slice_unit_congr outW (k0_off6_eq c 2 0) _ _ _ (fun _ => rfl)) rfl) $$ HI To_1 O_1 Oe_1
  iintro No_1
  iapply (step_wait_send m K c 0 3 (rem 18) _ rfl (Memref.slice_unit_congr accW (k0_off15_eq c 1) _ _ _ (fun _ => rfl)) (by decide)) $$ HI G_0_3 HS
  iintro ⟨Z_0_3, HS⟩
  iapply (step_wait_recv m K c 0 3 (rem 18) _ rfl rfl (by decide)) $$ HI N_0_3 HS
  iintro ⟨R_0_3, HS⟩
  iapply (step_wait_send m K c 1 3 (rem 18) _ rfl (Memref.slice_unit_congr accW (k0_off16_eq c 1) _ _ _ (fun _ => rfl)) (by decide)) $$ HI G_1_3 HS
  iintro ⟨Z_1_3, HS⟩
  iapply step_ret
  iapply Hk $$ No_1 Z_0_3 R_0_3 Z_1_3 HS

/-- The 20th printed part: what it takes and what it leaves. -/
theorem part_20 (c : Dev nD) (l : List (Option (Fin 69))) (v4 : BitVec 32) (v6 : BitVec 32) {Q : (PUnit) → sProp 𝕄} :
    INV m K ⊢ iprop(Fly (F := F) c (rS 1 3) -∗
      Fly (F := F) c (sS 0 5) -∗
      Fly (F := F) c (rS 0 5) -∗
      Fly (F := F) c (sS 1 5) -∗
      St (F := F) c (rem 18) l -∗
      (∀ r, recvPay m c 1 3 -∗
        sendPay m c 0 5 -∗
        recvPay m c 0 5 -∗
        sendPay m c 1 5 -∗
        St (F := F) c (rem 18) (some (sS 1 5) :: some (rS 0 5) :: some (sS 0 5) :: some (rS 1 3) :: l) -∗ Q r)
      -∗ WP c (k0_part20 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6) Q) := by
  simp only [k0_part20_eq_skeleton]; unfold k0_part20_skel
  simp only [semSignalWord, semWaitWord, Prog.lift, Prog.bind_op, Prog.bind_ret, Prog.pure_eq_ret, Prog.bind_assoc, wp_deviceId]
  iintro #HI N_1_3 G_0_5 N_0_5 G_1_5 HS Hk
  iapply (step_wait_recv m K c 1 3 (rem 18) _ rfl rfl (by decide)) $$ HI N_1_3 HS
  iintro ⟨R_1_3, HS⟩
  iapply (step_wait_send m K c 0 5 (rem 18) _ rfl (Memref.slice_unit_congr accW (k0_off5_eq c 1 1) _ _ _ (fun _ => rfl)) (by decide)) $$ HI G_0_5 HS
  iintro ⟨Z_0_5, HS⟩
  iapply (step_wait_recv m K c 0 5 (rem 18) _ rfl rfl (by decide)) $$ HI N_0_5 HS
  iintro ⟨R_0_5, HS⟩
  iapply (step_wait_send m K c 1 5 (rem 18) _ rfl (Memref.slice_unit_congr accW (k0_off6_eq c 1 1) _ _ _ (fun _ => rfl)) (by decide)) $$ HI G_1_5 HS
  iintro ⟨Z_1_5, HS⟩
  iapply step_ret
  iapply Hk $$ R_1_3 Z_0_5 R_0_5 Z_1_5 HS

/-- The 21st printed part: what it takes and what it leaves. -/
theorem part_21 (c : Dev nD) (l : List (Option (Fin 69))) (v8 : BitVec 32) (v10 : BitVec 32) {Q : (Σ' (v617 : FVec F S256x1024 .f32), BitVec 32) → sProp 𝕄} :
    INV m K ⊢ iprop(Fly (F := F) c (rS 1 5) -∗
      ownsTc c (accP (up 0 c) 1 0) fullShare (sub 1 (P5 m c (up 0 c) 0)) -∗
      recvPay m c 0 3 -∗
      recvPay m c 0 5 -∗
      ownsTc c (accP (up 1 c) 1 1) fullShare (sub 1 (P5 m c (up 1 c) 1)) -∗
      recvPay m c 1 3 -∗
      St (F := F) c (rem 18) l -∗
      (∀ v, recvPay m c 1 5 -∗
        recvPay m c 0 3 -∗
        recvPay m c 0 5 -∗
        sendPay m c 0 7 -∗
        sendPay m c 0 9 -∗
        outSrc m c 2 -∗
        ownsTc c (accP (up 1 c) 1 1) fullShare (sub 1 (P5 m c (up 1 c) 1)) -∗
        recvPay m c 1 3 -∗
        St (F := F) c (rem 18) (some (rS 1 5) :: l) -∗ Q ⟨(k0_pay21 (sub 1 (P5 m c (up 1 c) 1)) (unsq (rcvV m 1 3 c)) (unsq (rcvV m 1 5 c))), v⟩)
      -∗ WP c (k0_part21 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v8 v10) Q) := by
  simp only [k0_part21_eq_skeleton]; unfold k0_part21_skel
  simp only [semSignalWord, semWaitWord, Prog.lift, Prog.bind_op, Prog.bind_ret, Prog.pure_eq_ret, Prog.bind_assoc, wp_deviceId]
  iintro #HI N_1_5 U_0_1 R_0_3 R_0_5 U_1_1 R_1_3 HS Hk
  iapply (step_wait_recv m K c 1 5 (rem 18) _ rfl rfl (by decide)) $$ HI N_1_5 HS
  iintro ⟨R_1_5, HS⟩
  iapply (step_load_acc c (up 0 c) 1 0 (k0_off3_eq c 0 1)) $$ U_0_1
  iintro U_0_1
  iapply (step_load_slot m c 0 3 rfl rfl) $$ R_0_3
  iintro R_0_3
  iapply (step_load_slot m c 0 5 rfl rfl) $$ R_0_5
  iintro R_0_5
  iapply (step_load_acc c (up 0 c) 1 0 (k0_off3_eq c 0 1)) $$ U_0_1
  iintro U_0_1
  iapply (step_store_acc c (up 0 c) 1 0 (k0_off3_eq c 0 1)) $$ U_0_1
  iintro a
  icases (show _ ⊢ iprop(sendPay m c 0 7 ∗ sendPay m c 0 9 ∗ outSrc m c 2) from src_34 m c 0 1 (W := (k0_pay20 (sub 1 (P5 m c (up 0 c) 0)) (unsq (rcvV m 0 3 c)) (unsq (rcvV m 0 5 c)))) (VR_up m c 1 0)) $$ a with ⟨S_0_7, S_0_9, O_2⟩
  iapply (step_load_acc c (up 1 c) 1 1 (k0_off4_eq c 1 1)) $$ U_1_1
  iintro U_1_1
  iapply (step_load_slot m c 1 3 rfl rfl) $$ R_1_3
  iintro R_1_3
  iapply (step_load_slot m c 1 5 rfl rfl) $$ R_1_5
  iintro R_1_5
  iapply step_ret
  iapply Hk $$ R_1_5 R_0_3 R_0_5 S_0_7 S_0_9 O_2 U_1_1 R_1_3 HS

/-- The 22nd printed part: what it takes and what it leaves. -/
theorem part_22 (c : Dev nD) (l : List (Option (Fin 69))) (v4 : BitVec 32) (v6 : BitVec 32) (v8 : BitVec 32) (v10 : BitVec 32) (v619 : BitVec 32) {Q : (PUnit) → sProp 𝕄} :
    INV m K ⊢ iprop(ownsTc c (accP (up 1 c) 1 1) fullShare (sub 1 (P5 m c (up 1 c) 1)) -∗
      Ready (F := F) c 0 7 -∗
      sendPay m c 0 7 -∗
      Ready (F := F) c 1 7 -∗
      St (F := F) c (rem 18) l -∗
      (∀ r, sendPay m c 1 9 -∗
        outSrc m c 3 -∗
        Fly (F := F) c (sS 0 7) -∗
        Fly (F := F) c (sS 1 7) -∗
        St (F := F) c (rem 20) (l) -∗ Q r)
      -∗ WP c (k0_part22 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6 v8 v10 (k0_pay21 (sub 1 (P5 m c (up 1 c) 1)) (unsq (rcvV m 1 3 c)) (unsq (rcvV m 1 5 c))) v619) Q) := by
  simp only [k0_part22_eq_skeleton]; unfold k0_part22_skel
  simp only [semSignalWord, semWaitWord, Prog.lift, Prog.bind_op, Prog.bind_ret, Prog.pure_eq_ret, Prog.bind_assoc, wp_deviceId]
  iintro #HI U_1_1 Y_0_7 S_0_7 Y_1_7 HS Hk
  iapply (step_load_acc c (up 1 c) 1 1 (k0_off4_eq c 1 1)) $$ U_1_1
  iintro U_1_1
  iapply (step_store_acc c (up 1 c) 1 1 (k0_off4_eq c 1 1)) $$ U_1_1
  iintro a
  icases (show _ ⊢ iprop(sendPay m c 1 7 ∗ sendPay m c 1 9 ∗ outSrc m c 3) from src_34 m c 1 1 (W := (k0_pay22 (k0_pay21 (sub 1 (P5 m c (up 1 c) 1)) (unsq (rcvV m 1 3 c)) (unsq (rcvV m 1 5 c))))) (VR_up m c 1 1)) $$ a with ⟨S_1_7, S_1_9, O_3⟩
  iapply (step_go m K c 0 7 (rem 19) (Memref.slice_unit_congr accW (k0_off5_eq c 0 1) _ _ _ (fun _ => rfl)) (Fin.ext (k0_dev19_eq c)) rfl rfl rfl rfl (P := rem 18)) $$ HI Y_0_7 S_0_7 HS
  iintro ⟨G_0_7, HS⟩
  iapply (step_go m K c 1 7 (rem 20) (Memref.slice_unit_congr accW (k0_off6_eq c 2 1) _ _ _ (fun _ => rfl)) (Fin.ext (k0_dev20_eq c)) rfl rfl rfl rfl (P := rem 19)) $$ HI Y_1_7 S_1_7 HS
  iintro ⟨G_1_7, HS⟩
  iapply step_ret
  iapply Hk $$ S_1_9 O_3 G_0_7 G_1_7 HS

/-- The 23rd printed part: what it takes and what it leaves. -/
theorem part_23 (c : Dev nD) (l : List (Option (Fin 69))) (v4 : BitVec 32) (v6 : BitVec 32) (v8 : BitVec 32) (v10 : BitVec 32) {Q : (PUnit) → sProp 𝕄} :
    INV m K ⊢ iprop(Ready (F := F) c 0 9 -∗
      sendPay m c 0 9 -∗
      Ready (F := F) c 1 9 -∗
      sendPay m c 1 9 -∗
      outSrc m c 2 -∗
      LocTok (F := F) c (oS 2) -∗
      OutE (F := F) c 2 -∗
      St (F := F) c (rem 20) l -∗
      (∀ r, Fly (F := F) c (sS 0 9) -∗
        Fly (F := F) c (sS 1 9) -∗
        Fly (F := F) c (oS 2) -∗
        St (F := F) c (rem 22) (l) -∗ Q r)
      -∗ WP c (k0_part23 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6 v8 v10) Q) := by
  simp only [k0_part23_eq_skeleton]; unfold k0_part23_skel
  simp only [semSignalWord, semWaitWord, Prog.lift, Prog.bind_op, Prog.bind_ret, Prog.pure_eq_ret, Prog.bind_assoc, wp_deviceId]
  iintro #HI Y_0_9 S_0_9 Y_1_9 S_1_9 O_2 To_2 Oe_2 HS Hk
  iapply (step_go m K c 0 9 (rem 21) (Memref.slice_unit_congr accW (k0_off5_eq c 0 1) _ _ _ (fun _ => rfl)) (Fin.ext (k0_dev21_eq c)) rfl rfl rfl rfl (P := rem 20)) $$ HI Y_0_9 S_0_9 HS
  iintro ⟨G_0_9, HS⟩
  iapply (step_go m K c 1 9 (rem 22) (Memref.slice_unit_congr accW (k0_off6_eq c 2 1) _ _ _ (fun _ => rfl)) (Fin.ext (k0_dev22_eq c)) rfl rfl rfl rfl (P := rem 21)) $$ HI Y_1_9 S_1_9 HS
  iintro ⟨G_1_9, HS⟩
  iapply (step_out m K c 2 (Memref.slice_unit_congr accW (k0_off5_eq c 0 1) _ _ _ (fun _ => rfl)) (Memref.slice_unit_congr outW (k0_off5_eq c 0 1) _ _ _ (fun _ => rfl)) rfl) $$ HI To_2 O_2 Oe_2
  iintro No_2
  iapply step_ret
  iapply Hk $$ G_0_9 G_1_9 No_2 HS

/-- The 24th printed part: what it takes and what it leaves. -/
theorem part_24 (c : Dev nD) (l : List (Option (Fin 69))) (v4 : BitVec 32) (v6 : BitVec 32) {Q : (PUnit) → sProp 𝕄} :
    INV m K ⊢ iprop(outSrc m c 3 -∗
      LocTok (F := F) c (oS 3) -∗
      OutE (F := F) c 3 -∗
      Fly (F := F) c (sS 0 6) -∗
      Fly (F := F) c (rS 0 6) -∗
      Fly (F := F) c (sS 1 6) -∗
      St (F := F) c (rem 22) l -∗
      (∀ r, Fly (F := F) c (oS 3) -∗
        sendPay m c 0 6 -∗
        sendPay m c 0 10 -∗
        outSrc m c 4 -∗
        sendPay m c 1 6 -∗
        St (F := F) c (rem 22) (some (sS 1 6) :: some (rS 0 6) :: some (sS 0 6) :: l) -∗ Q r)
      -∗ WP c (k0_part24 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6) Q) := by
  simp only [k0_part24_eq_skeleton]; unfold k0_part24_skel
  simp only [semSignalWord, semWaitWord, Prog.lift, Prog.bind_op, Prog.bind_ret, Prog.pure_eq_ret, Prog.bind_assoc, wp_deviceId]
  iintro #HI O_3 To_3 Oe_3 G_0_6 N_0_6 G_1_6 HS Hk
  iapply (step_out m K c 3 (Memref.slice_unit_congr accW (k0_off6_eq c 2 1) _ _ _ (fun _ => rfl)) (Memref.slice_unit_congr outW (k0_off6_eq c 2 1) _ _ _ (fun _ => rfl)) rfl) $$ HI To_3 O_3 Oe_3
  iintro No_3
  iapply (step_wait_send m K c 0 6 (rem 22) _ rfl (Memref.slice_unit_congr accW (k0_off5_eq c 0 0) _ _ _ (fun _ => rfl)) (by decide)) $$ HI G_0_6 HS
  iintro ⟨Z_0_6, HS⟩
  iapply (step_wait_recv m K c 0 6 (rem 22) _ rfl rfl (by decide)) $$ HI N_0_6 HS
  iintro ⟨R_0_6, HS⟩
  icases (show recvPay m c 0 6 ⊢ iprop(sendPay m c 0 10 ∗ outSrc m c 4) from src_5 m c 0 0) $$ R_0_6 with ⟨S_0_10, O_4⟩
  iapply (step_wait_send m K c 1 6 (rem 22) _ rfl (Memref.slice_unit_congr accW (k0_off6_eq c 2 0) _ _ _ (fun _ => rfl)) (by decide)) $$ HI G_1_6 HS
  iintro ⟨Z_1_6, HS⟩
  iapply step_ret
  iapply Hk $$ No_3 Z_0_6 S_0_10 O_4 Z_1_6 HS

/-- The 25th printed part: what it takes and what it leaves. -/
theorem part_25 (c : Dev nD) (l : List (Option (Fin 69))) (v2 : BitVec 32) (v4 : BitVec 32) (v6 : BitVec 32) {Q : (PUnit) → sProp 𝕄} :
    INV m K ⊢ iprop(Fly (F := F) c (rS 1 6) -∗
      sendPay m c 0 10 -∗
      Ready (F := F) c 0 10 -∗
      Ready (F := F) c 1 10 -∗
      St (F := F) c (rem 22) l -∗
      (∀ r, outSrc m c 5 -∗
        Fly (F := F) c (sS 0 10) -∗
        Fly (F := F) c (sS 1 10) -∗
        St (F := F) c (rem 24) (some (rS 1 6) :: l) -∗ Q r)
      -∗ WP c (k0_part25 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v4 v6) Q) := by
  simp only [k0_part25_eq_skeleton]; unfold k0_part25_skel
  simp only [semSignalWord, semWaitWord, Prog.lift, Prog.bind_op, Prog.bind_ret, Prog.pure_eq_ret, Prog.bind_assoc, wp_deviceId]
  iintro #HI N_1_6 S_0_10 Y_0_10 Y_1_10 HS Hk
  iapply (step_wait_recv m K c 1 6 (rem 22) _ rfl rfl (by decide)) $$ HI N_1_6 HS
  iintro ⟨R_1_6, HS⟩
  icases (show recvPay m c 1 6 ⊢ iprop(sendPay m c 1 10 ∗ outSrc m c 5) from src_5 m c 1 0) $$ R_1_6 with ⟨S_1_10, O_5⟩
  iapply (step_go m K c 0 10 (rem 23) rfl (Fin.ext (k0_dev23_eq c)) rfl rfl rfl rfl (P := rem 22)) $$ HI Y_0_10 S_0_10 HS
  iintro ⟨G_0_10, HS⟩
  iapply (step_go m K c 1 10 (rem 24) rfl (Fin.ext (k0_dev24_eq c)) rfl rfl rfl rfl (P := rem 23)) $$ HI Y_1_10 S_1_10 HS
  iintro ⟨G_1_10, HS⟩
  iapply step_ret
  iapply Hk $$ O_5 G_0_10 G_1_10 HS

/-- The 26th printed part: what it takes and what it leaves. -/
theorem part_26 (c : Dev nD) (l : List (Option (Fin 69))) (v2 : BitVec 32) (v4 : BitVec 32) {Q : (PUnit) → sProp 𝕄} :
    INV m K ⊢ iprop(outSrc m c 4 -∗
      LocTok (F := F) c (oS 4) -∗
      OutE (F := F) c 4 -∗
      outSrc m c 5 -∗
      LocTok (F := F) c (oS 5) -∗
      OutE (F := F) c 5 -∗
      Fly (F := F) c (sS 0 7) -∗
      Fly (F := F) c (rS 0 7) -∗
      Fly (F := F) c (sS 1 7) -∗
      St (F := F) c (rem 24) l -∗
      (∀ r, Fly (F := F) c (oS 4) -∗
        Fly (F := F) c (oS 5) -∗
        sendPay m c 0 7 -∗
        sendPay m c 0 11 -∗
        outSrc m c 6 -∗
        sendPay m c 1 7 -∗
        St (F := F) c (rem 24) (some (sS 1 7) :: some (rS 0 7) :: some (sS 0 7) :: l) -∗ Q r)
      -∗ WP c (k0_part26 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v4) Q) := by
  simp only [k0_part26_eq_skeleton]; unfold k0_part26_skel
  simp only [semSignalWord, semWaitWord, Prog.lift, Prog.bind_op, Prog.bind_ret, Prog.pure_eq_ret, Prog.bind_assoc, wp_deviceId]
  iintro #HI O_4 To_4 Oe_4 O_5 To_5 Oe_5 G_0_7 N_0_7 G_1_7 HS Hk
  iapply (step_out m K c 4 rfl (Memref.slice_unit_congr outW (k0_off15_eq c 0) _ _ _ (fun _ => rfl)) rfl) $$ HI To_4 O_4 Oe_4
  iintro No_4
  iapply (step_out m K c 5 rfl (Memref.slice_unit_congr outW (k0_off16_eq c 0) _ _ _ (fun _ => rfl)) rfl) $$ HI To_5 O_5 Oe_5
  iintro No_5
  iapply (step_wait_send m K c 0 7 (rem 24) _ rfl (Memref.slice_unit_congr accW (k0_off5_eq c 0 1) _ _ _ (fun _ => rfl)) (by decide)) $$ HI G_0_7 HS
  iintro ⟨Z_0_7, HS⟩
  iapply (step_wait_recv m K c 0 7 (rem 24) _ rfl rfl (by decide)) $$ HI N_0_7 HS
  iintro ⟨R_0_7, HS⟩
  icases (show recvPay m c 0 7 ⊢ iprop(sendPay m c 0 11 ∗ outSrc m c 6) from src_5 m c 0 1) $$ R_0_7 with ⟨S_0_11, O_6⟩
  iapply (step_wait_send m K c 1 7 (rem 24) _ rfl (Memref.slice_unit_congr accW (k0_off6_eq c 2 1) _ _ _ (fun _ => rfl)) (by decide)) $$ HI G_1_7 HS
  iintro ⟨Z_1_7, HS⟩
  iapply step_ret
  iapply Hk $$ No_4 No_5 Z_0_7 S_0_11 O_6 Z_1_7 HS

/-- The 27th printed part: what it takes and what it leaves. -/
theorem part_27 (c : Dev nD) (l : List (Option (Fin 69))) (v2 : BitVec 32) (v4 : BitVec 32) (v6 : BitVec 32) {Q : (PUnit) → sProp 𝕄} :
    INV m K ⊢ iprop(Fly (F := F) c (rS 1 7) -∗
      sendPay m c 0 11 -∗
      Ready (F := F) c 0 11 -∗
      Ready (F := F) c 1 11 -∗
      St (F := F) c (rem 24) l -∗
      (∀ r, outSrc m c 7 -∗
        Fly (F := F) c (sS 0 11) -∗
        Fly (F := F) c (sS 1 11) -∗
        St (F := F) c (rem 26) (some (rS 1 7) :: l) -∗ Q r)
      -∗ WP c (k0_part27 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v4 v6) Q) := by
  simp only [k0_part27_eq_skeleton]; unfold k0_part27_skel
  simp only [semSignalWord, semWaitWord, Prog.lift, Prog.bind_op, Prog.bind_ret, Prog.pure_eq_ret, Prog.bind_assoc, wp_deviceId]
  iintro #HI N_1_7 S_0_11 Y_0_11 Y_1_11 HS Hk
  iapply (step_wait_recv m K c 1 7 (rem 24) _ rfl rfl (by decide)) $$ HI N_1_7 HS
  iintro ⟨R_1_7, HS⟩
  icases (show recvPay m c 1 7 ⊢ iprop(sendPay m c 1 11 ∗ outSrc m c 7) from src_5 m c 1 1) $$ R_1_7 with ⟨S_1_11, O_7⟩
  iapply (step_go m K c 0 11 (rem 25) rfl (Fin.ext (k0_dev25_eq c)) rfl rfl rfl rfl (P := rem 24)) $$ HI Y_0_11 S_0_11 HS
  iintro ⟨G_0_11, HS⟩
  iapply (step_go m K c 1 11 (rem 26) rfl (Fin.ext (k0_dev26_eq c)) rfl rfl rfl rfl (P := rem 25)) $$ HI Y_1_11 S_1_11 HS
  iintro ⟨G_1_11, HS⟩
  iapply step_ret
  iapply Hk $$ O_7 G_0_11 G_1_11 HS

/-- The 28th printed part: what it takes and what it leaves. -/
theorem part_28 (c : Dev nD) (l : List (Option (Fin 69))) (v2 : BitVec 32) (v6 : BitVec 32) {Q : (PUnit) → sProp 𝕄} :
    INV m K ⊢ iprop(outSrc m c 6 -∗
      LocTok (F := F) c (oS 6) -∗
      OutE (F := F) c 6 -∗
      outSrc m c 7 -∗
      LocTok (F := F) c (oS 7) -∗
      OutE (F := F) c 7 -∗
      Fly (F := F) c (sS 0 8) -∗
      Fly (F := F) c (rS 0 8) -∗
      St (F := F) c (rem 26) l -∗
      (∀ r, Fly (F := F) c (oS 6) -∗
        Fly (F := F) c (oS 7) -∗
        sendPay m c 0 8 -∗
        outSrc m c 8 -∗
        St (F := F) c (rem 26) (some (rS 0 8) :: some (sS 0 8) :: l) -∗ Q r)
      -∗ WP c (k0_part28 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v6) Q) := by
  simp only [k0_part28_eq_skeleton]; unfold k0_part28_skel
  simp only [semSignalWord, semWaitWord, Prog.lift, Prog.bind_op, Prog.bind_ret, Prog.pure_eq_ret, Prog.bind_assoc, wp_deviceId]
  iintro #HI O_6 To_6 Oe_6 O_7 To_7 Oe_7 G_0_8 N_0_8 HS Hk
  iapply (step_out m K c 6 rfl (Memref.slice_unit_congr outW (k0_off15_eq c 1) _ _ _ (fun _ => rfl)) rfl) $$ HI To_6 O_6 Oe_6
  iintro No_6
  iapply (step_out m K c 7 rfl (Memref.slice_unit_congr outW (k0_off16_eq c 1) _ _ _ (fun _ => rfl)) rfl) $$ HI To_7 O_7 Oe_7
  iintro No_7
  iapply (step_wait_send m K c 0 8 (rem 26) _ rfl (Memref.slice_unit_congr accW (k0_off5_eq c 0 0) _ _ _ (fun _ => rfl)) (by decide)) $$ HI G_0_8 HS
  iintro ⟨Z_0_8, HS⟩
  iapply (step_wait_recv m K c 0 8 (rem 26) _ rfl rfl (by decide)) $$ HI N_0_8 HS
  iintro ⟨R_0_8, HS⟩
  ihave O_8 := (show recvPay m c 0 8 ⊢ outSrc m c 8 from src_out2 m c 0 0) $$ R_0_8
  iapply step_ret
  iapply Hk $$ No_6 No_7 Z_0_8 O_8 HS

/-- The 29th printed part: what it takes and what it leaves. -/
theorem part_29 (c : Dev nD) (l : List (Option (Fin 69))) (v4 : BitVec 32) (v12 : BitVec 32) {Q : (PUnit) → sProp 𝕄} :
    INV m K ⊢ iprop(Fly (F := F) c (sS 1 8) -∗
      Fly (F := F) c (rS 1 8) -∗
      outSrc m c 8 -∗
      LocTok (F := F) c (oS 8) -∗
      OutE (F := F) c 8 -∗
      LocTok (F := F) c (oS 9) -∗
      OutE (F := F) c 9 -∗
      St (F := F) c (rem 26) l -∗
      (∀ r, sendPay m c 1 8 -∗
        Fly (F := F) c (oS 8) -∗
        Fly (F := F) c (oS 9) -∗
        St (F := F) c (rem 26) (some (rS 1 8) :: some (sS 1 8) :: l) -∗ Q r)
      -∗ WP c (k0_part29 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v12) Q) := by
  simp only [k0_part29_eq_skeleton]; unfold k0_part29_skel
  simp only [semSignalWord, semWaitWord, Prog.lift, Prog.bind_op, Prog.bind_ret, Prog.pure_eq_ret, Prog.bind_assoc, wp_deviceId]
  iintro #HI G_1_8 N_1_8 O_8 To_8 Oe_8 To_9 Oe_9 HS Hk
  iapply (step_wait_send m K c 1 8 (rem 26) _ rfl (Memref.slice_unit_congr accW (k0_off6_eq c 2 0) _ _ _ (fun _ => rfl)) (by decide)) $$ HI G_1_8 HS
  iintro ⟨Z_1_8, HS⟩
  iapply (step_wait_recv m K c 1 8 (rem 26) _ rfl rfl (by decide)) $$ HI N_1_8 HS
  iintro ⟨R_1_8, HS⟩
  ihave O_9 := (show recvPay m c 1 8 ⊢ outSrc m c 9 from src_out2 m c 1 0) $$ R_1_8
  iapply (step_out m K c 8 rfl (Memref.slice_unit_congr outW (k0_off5_eq c 1 0) _ _ _ (fun _ => rfl)) rfl) $$ HI To_8 O_8 Oe_8
  iintro No_8
  iapply (step_out m K c 9 rfl (Memref.slice_unit_congr outW (k0_off6_eq c 1 0) _ _ _ (fun _ => rfl)) rfl) $$ HI To_9 O_9 Oe_9
  iintro No_9
  iapply step_ret
  iapply Hk $$ Z_1_8 No_8 No_9 HS

/-- The 30th printed part: what it takes and what it leaves. -/
theorem part_30 (c : Dev nD) (l : List (Option (Fin 69))) (v4 : BitVec 32) (v6 : BitVec 32) (v12 : BitVec 32) {Q : (PUnit) → sProp 𝕄} :
    INV m K ⊢ iprop(Fly (F := F) c (sS 0 9) -∗
      Fly (F := F) c (rS 0 9) -∗
      Fly (F := F) c (sS 1 9) -∗
      Fly (F := F) c (rS 1 9) -∗
      St (F := F) c (rem 26) l -∗
      (∀ r, sendPay m c 0 9 -∗
        outSrc m c 10 -∗
        sendPay m c 1 9 -∗
        outSrc m c 11 -∗
        St (F := F) c (rem 26) (some (rS 1 9) :: some (sS 1 9) :: some (rS 0 9) :: some (sS 0 9) :: l) -∗ Q r)
      -∗ WP c (k0_part30 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6 v12) Q) := by
  simp only [k0_part30_eq_skeleton]; unfold k0_part30_skel
  simp only [semSignalWord, semWaitWord, Prog.lift, Prog.bind_op, Prog.bind_ret, Prog.pure_eq_ret, Prog.bind_assoc, wp_deviceId]
  iintro #HI G_0_9 N_0_9 G_1_9 N_1_9 HS Hk
  iapply (step_wait_send m K c 0 9 (rem 26) _ rfl (Memref.slice_unit_congr accW (k0_off5_eq c 0 1) _ _ _ (fun _ => rfl)) (by decide)) $$ HI G_0_9 HS
  iintro ⟨Z_0_9, HS⟩
  iapply (step_wait_recv m K c 0 9 (rem 26) _ rfl rfl (by decide)) $$ HI N_0_9 HS
  iintro ⟨R_0_9, HS⟩
  ihave O_10 := (show recvPay m c 0 9 ⊢ outSrc m c 10 from src_out2 m c 0 1) $$ R_0_9
  iapply (step_wait_send m K c 1 9 (rem 26) _ rfl (Memref.slice_unit_congr accW (k0_off6_eq c 2 1) _ _ _ (fun _ => rfl)) (by decide)) $$ HI G_1_9 HS
  iintro ⟨Z_1_9, HS⟩
  iapply (step_wait_recv m K c 1 9 (rem 26) _ rfl rfl (by decide)) $$ HI N_1_9 HS
  iintro ⟨R_1_9, HS⟩
  ihave O_11 := (show recvPay m c 1 9 ⊢ outSrc m c 11 from src_out2 m c 1 1) $$ R_1_9
  iapply step_ret
  iapply Hk $$ Z_0_9 O_10 Z_1_9 O_11 HS

/-- The 31st printed part: what it takes and what it leaves. -/
theorem part_31 (c : Dev nD) (l : List (Option (Fin 69))) (v4 : BitVec 32) (v12 : BitVec 32) {Q : (PUnit) → sProp 𝕄} :
    INV m K ⊢ iprop(outSrc m c 10 -∗
      LocTok (F := F) c (oS 10) -∗
      OutE (F := F) c 10 -∗
      outSrc m c 11 -∗
      LocTok (F := F) c (oS 11) -∗
      OutE (F := F) c 11 -∗
      Fly (F := F) c (sS 0 10) -∗
      Fly (F := F) c (rS 0 10) -∗
      St (F := F) c (rem 26) l -∗
      (∀ r, Fly (F := F) c (oS 10) -∗
        Fly (F := F) c (oS 11) -∗
        sendPay m c 0 10 -∗
        outSrc m c 12 -∗
        St (F := F) c (rem 26) (some (rS 0 10) :: some (sS 0 10) :: l) -∗ Q r)
      -∗ WP c (k0_part31 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v12) Q) := by
  simp only [k0_part31_eq_skeleton]; unfold k0_part31_skel
  simp only [semSignalWord, semWaitWord, Prog.lift, Prog.bind_op, Prog.bind_ret, Prog.pure_eq_ret, Prog.bind_assoc, wp_deviceId]
  iintro #HI O_10 To_10 Oe_10 O_11 To_11 Oe_11 G_0_10 N_0_10 HS Hk
  iapply (step_out m K c 10 rfl (Memref.slice_unit_congr outW (k0_off5_eq c 1 1) _ _ _ (fun _ => rfl)) rfl) $$ HI To_10 O_10 Oe_10
  iintro No_10
  iapply (step_out m K c 11 rfl (Memref.slice_unit_congr outW (k0_off6_eq c 1 1) _ _ _ (fun _ => rfl)) rfl) $$ HI To_11 O_11 Oe_11
  iintro No_11
  iapply (step_wait_send m K c 0 10 (rem 26) _ rfl rfl (by decide)) $$ HI G_0_10 HS
  iintro ⟨Z_0_10, HS⟩
  iapply (step_wait_recv m K c 0 10 (rem 26) _ rfl rfl (by decide)) $$ HI N_0_10 HS
  iintro ⟨R_0_10, HS⟩
  ihave O_12 := (show recvPay m c 0 10 ⊢ outSrc m c 12 from src_out3 m c 0 0) $$ R_0_10
  iapply step_ret
  iapply Hk $$ No_10 No_11 Z_0_10 O_12 HS

/-- The 32nd printed part: what it takes and what it leaves. -/
theorem part_32 (c : Dev nD) (l : List (Option (Fin 69))) (v6 : BitVec 32) (v8 : BitVec 32) (v10 : BitVec 32) {Q : (PUnit) → sProp 𝕄} :
    INV m K ⊢ iprop(Fly (F := F) c (sS 1 10) -∗
      Fly (F := F) c (rS 1 10) -∗
      outSrc m c 12 -∗
      LocTok (F := F) c (oS 12) -∗
      OutE (F := F) c 12 -∗
      St (F := F) c (rem 26) l -∗
      (∀ r, sendPay m c 1 10 -∗
        outSrc m c 13 -∗
        Fly (F := F) c (oS 12) -∗
        St (F := F) c (rem 26) (some (rS 1 10) :: some (sS 1 10) :: l) -∗ Q r)
      -∗ WP c (k0_part32 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v6 v8 v10) Q) := by
  simp only [k0_part32_eq_skeleton]; unfold k0_part32_skel
  simp only [semSignalWord, semWaitWord, Prog.lift, Prog.bind_op, Prog.bind_ret, Prog.pure_eq_ret, Prog.bind_assoc, wp_deviceId]
  iintro #HI G_1_10 N_1_10 O_12 To_12 Oe_12 HS Hk
  iapply (step_wait_send m K c 1 10 (rem 26) _ rfl rfl (by decide)) $$ HI G_1_10 HS
  iintro ⟨Z_1_10, HS⟩
  iapply (step_wait_recv m K c 1 10 (rem 26) _ rfl rfl (by decide)) $$ HI N_1_10 HS
  iintro ⟨R_1_10, HS⟩
  ihave O_13 := (show recvPay m c 1 10 ⊢ outSrc m c 13 from src_out3 m c 1 0) $$ R_1_10
  iapply (step_out m K c 12 rfl (Memref.slice_unit_congr outW (k0_off5_eq c 2 0) _ _ _ (fun _ => rfl)) rfl) $$ HI To_12 O_12 Oe_12
  iintro No_12
  iapply step_ret
  iapply Hk $$ Z_1_10 O_13 No_12 HS

/-- The 33rd printed part: what it takes and what it leaves. -/
theorem part_33 (c : Dev nD) (l : List (Option (Fin 69))) (v4 : BitVec 32) (v6 : BitVec 32) {Q : (Σ' (v938 : BitVec 32), BitVec 32) → sProp 𝕄} :
    INV m K ⊢ iprop(outSrc m c 13 -∗
      LocTok (F := F) c (oS 13) -∗
      OutE (F := F) c 13 -∗
      Fly (F := F) c (sS 0 11) -∗
      Fly (F := F) c (rS 0 11) -∗
      Fly (F := F) c (sS 1 11) -∗
      St (F := F) c (rem 26) l -∗
      (∀ r, Fly (F := F) c (oS 13) -∗
        sendPay m c 0 11 -∗
        outSrc m c 14 -∗
        sendPay m c 1 11 -∗
        St (F := F) c (rem 26) (some (sS 1 11) :: some (rS 0 11) :: some (sS 0 11) :: l) -∗ Q r)
      -∗ WP c (k0_part33 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6) Q) := by
  simp only [k0_part33_eq_skeleton]; unfold k0_part33_skel
  simp only [semSignalWord, semWaitWord, Prog.lift, Prog.bind_op, Prog.bind_ret, Prog.pure_eq_ret, Prog.bind_assoc, wp_deviceId]
  iintro #HI O_13 To_13 Oe_13 G_0_11 N_0_11 G_1_11 HS Hk
  iapply (step_out m K c 13 rfl (Memref.slice_unit_congr outW (k0_off6_eq c 0 0) _ _ _ (fun _ => rfl)) rfl) $$ HI To_13 O_13 Oe_13
  iintro No_13
  iapply (step_wait_send m K c 0 11 (rem 26) _ rfl rfl (by decide)) $$ HI G_0_11 HS
  iintro ⟨Z_0_11, HS⟩
  iapply (step_wait_recv m K c 0 11 (rem 26) _ rfl rfl (by decide)) $$ HI N_0_11 HS
  iintro ⟨R_0_11, HS⟩
  ihave O_14 := (show recvPay m c 0 11 ⊢ outSrc m c 14 from src_out3 m c 0 1) $$ R_0_11
  iapply (step_wait_send m K c 1 11 (rem 26) _ rfl rfl (by decide)) $$ HI G_1_11 HS
  iintro ⟨Z_1_11, HS⟩
  iapply step_ret
  iapply Hk $$ No_13 Z_0_11 O_14 Z_1_11 HS

/-- The 34th printed part: what it takes and what it leaves. -/
theorem part_34 (c : Dev nD) (l : List (Option (Fin 69))) (v8 : BitVec 32) (v10 : BitVec 32) (v938 : BitVec 32) (c0_i32_897 : BitVec 32) {Q : (PUnit) → sProp 𝕄} :
    INV m K ⊢ iprop(Fly (F := F) c (rS 1 11) -∗
      outSrc m c 14 -∗
      LocTok (F := F) c (oS 14) -∗
      OutE (F := F) c 14 -∗
      LocTok (F := F) c (oS 15) -∗
      OutE (F := F) c 15 -∗
      Fly (F := F) c (oS 0) -∗
      Fly (F := F) c (oS 1) -∗
      St (F := F) c (rem 26) l -∗
      (∀ r, Fly (F := F) c (oS 14) -∗
        Fly (F := F) c (oS 15) -∗
        outPay m c 0 -∗
        outPay m c 1 -∗
        St (F := F) c (rem 26) (some (oS 1) :: some (oS 0) :: some (rS 1 11) :: l) -∗ Q r)
      -∗ WP c (k0_part34 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v8 v10 v938 c0_i32_897) Q) := by
  simp only [k0_part34_eq_skeleton]; unfold k0_part34_skel
  simp only [semSignalWord, semWaitWord, Prog.lift, Prog.bind_op, Prog.bind_ret, Prog.pure_eq_ret, Prog.bind_assoc, wp_deviceId]
  iintro #HI N_1_11 O_14 To_14 Oe_14 To_15 Oe_15 No_0 No_1 HS Hk
  iapply (step_wait_recv m K c 1 11 (rem 26) _ rfl rfl (by decide)) $$ HI N_1_11 HS
  iintro ⟨R_1_11, HS⟩
  ihave O_15 := (show recvPay m c 1 11 ⊢ outSrc m c 15 from src_out3 m c 1 1) $$ R_1_11
  iapply (step_out m K c 14 rfl (Memref.slice_unit_congr outW (k0_off5_eq c 2 1) _ _ _ (fun _ => rfl)) rfl) $$ HI To_14 O_14 Oe_14
  iintro No_14
  iapply (step_out m K c 15 rfl (Memref.slice_unit_congr outW (k0_off6_eq c 0 1) _ _ _ (fun _ => rfl)) rfl) $$ HI To_15 O_15 Oe_15
  iintro No_15
  iapply (step_wait_out m K c 0 _ rfl (Memref.slice_unit_congr outW (k0_off5_eq c 0 0) _ _ _ (fun _ => rfl))) $$ HI No_0 HS
  iintro ⟨D_0, HS⟩
  iapply (step_wait_out m K c 1 _ rfl (Memref.slice_unit_congr outW (k0_off6_eq c 2 0) _ _ _ (fun _ => rfl))) $$ HI No_1 HS
  iintro ⟨D_1, HS⟩
  iapply step_ret
  iapply Hk $$ No_14 No_15 D_0 D_1 HS

/-- The 35th printed part: what it takes and what it leaves. -/
theorem part_35 (c : Dev nD) (l : List (Option (Fin 69)))  {Q : (PUnit) → sProp 𝕄} :
    INV m K ⊢ iprop(Fly (F := F) c (oS 2) -∗
      Fly (F := F) c (oS 3) -∗
      Fly (F := F) c (oS 4) -∗
      Fly (F := F) c (oS 5) -∗
      Fly (F := F) c (oS 6) -∗
      Fly (F := F) c (oS 7) -∗
      St (F := F) c (rem 26) l -∗
      (∀ r, outPay m c 2 -∗
        outPay m c 3 -∗
        outPay m c 4 -∗
        outPay m c 5 -∗
        outPay m c 6 -∗
        outPay m c 7 -∗
        St (F := F) c (rem 26) (some (oS 7) :: some (oS 6) :: some (oS 5) :: some (oS 4) :: some (oS 3) :: some (oS 2) :: l) -∗ Q r)
      -∗ WP c (k0_part35 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c) Q) := by
  simp only [k0_part35_eq_skeleton]; unfold k0_part35_skel
  simp only [semSignalWord, semWaitWord, Prog.lift, Prog.bind_op, Prog.bind_ret, Prog.pure_eq_ret, Prog.bind_assoc, wp_deviceId]
  iintro #HI No_2 No_3 No_4 No_5 No_6 No_7 HS Hk
  iapply (step_wait_out m K c 2 _ rfl (Memref.slice_unit_congr outW (k0_off5_eq c 0 1) _ _ _ (fun _ => rfl))) $$ HI No_2 HS
  iintro ⟨D_2, HS⟩
  iapply (step_wait_out m K c 3 _ rfl (Memref.slice_unit_congr outW (k0_off6_eq c 2 1) _ _ _ (fun _ => rfl))) $$ HI No_3 HS
  iintro ⟨D_3, HS⟩
  iapply (step_wait_out m K c 4 _ rfl (Memref.slice_unit_congr outW (k0_off15_eq c 0) _ _ _ (fun _ => rfl))) $$ HI No_4 HS
  iintro ⟨D_4, HS⟩
  iapply (step_wait_out m K c 5 _ rfl (Memref.slice_unit_congr outW (k0_off16_eq c 0) _ _ _ (fun _ => rfl))) $$ HI No_5 HS
  iintro ⟨D_5, HS⟩
  iapply (step_wait_out m K c 6 _ rfl (Memref.slice_unit_congr outW (k0_off15_eq c 1) _ _ _ (fun _ => rfl))) $$ HI No_6 HS
  iintro ⟨D_6, HS⟩
  iapply (step_wait_out m K c 7 _ rfl (Memref.slice_unit_congr outW (k0_off16_eq c 1) _ _ _ (fun _ => rfl))) $$ HI No_7 HS
  iintro ⟨D_7, HS⟩
  iapply step_ret
  iapply Hk $$ D_2 D_3 D_4 D_5 D_6 D_7 HS

/-- The 36th printed part: what it takes and what it leaves. -/
theorem part_36 (c : Dev nD) (l : List (Option (Fin 69)))  {Q : (PUnit) → sProp 𝕄} :
    INV m K ⊢ iprop(Fly (F := F) c (oS 8) -∗
      Fly (F := F) c (oS 9) -∗
      Fly (F := F) c (oS 10) -∗
      Fly (F := F) c (oS 11) -∗
      Fly (F := F) c (oS 12) -∗
      St (F := F) c (rem 26) l -∗
      (∀ r, outPay m c 8 -∗
        outPay m c 9 -∗
        outPay m c 10 -∗
        outPay m c 11 -∗
        outPay m c 12 -∗
        St (F := F) c (rem 26) (some (oS 12) :: some (oS 11) :: some (oS 10) :: some (oS 9) :: some (oS 8) :: l) -∗ Q r)
      -∗ WP c (k0_part36 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c) Q) := by
  simp only [k0_part36_eq_skeleton]; unfold k0_part36_skel
  simp only [semSignalWord, semWaitWord, Prog.lift, Prog.bind_op, Prog.bind_ret, Prog.pure_eq_ret, Prog.bind_assoc, wp_deviceId]
  iintro #HI No_8 No_9 No_10 No_11 No_12 HS Hk
  iapply (step_wait_out m K c 8 _ rfl (Memref.slice_unit_congr outW (k0_off5_eq c 1 0) _ _ _ (fun _ => rfl))) $$ HI No_8 HS
  iintro ⟨D_8, HS⟩
  iapply (step_wait_out m K c 9 _ rfl (Memref.slice_unit_congr outW (k0_off6_eq c 1 0) _ _ _ (fun _ => rfl))) $$ HI No_9 HS
  iintro ⟨D_9, HS⟩
  iapply (step_wait_out m K c 10 _ rfl (Memref.slice_unit_congr outW (k0_off5_eq c 1 1) _ _ _ (fun _ => rfl))) $$ HI No_10 HS
  iintro ⟨D_10, HS⟩
  iapply (step_wait_out m K c 11 _ rfl (Memref.slice_unit_congr outW (k0_off6_eq c 1 1) _ _ _ (fun _ => rfl))) $$ HI No_11 HS
  iintro ⟨D_11, HS⟩
  iapply (step_wait_out m K c 12 _ rfl (Memref.slice_unit_congr outW (k0_off5_eq c 2 0) _ _ _ (fun _ => rfl))) $$ HI No_12 HS
  iintro ⟨D_12, HS⟩
  iapply step_ret
  iapply Hk $$ D_8 D_9 D_10 D_11 D_12 HS

end Cert.RingMM

end
-- ==== Proof.Body.lean ====
/-
The kernel at one device, from its parts.
-/
module

public import proofs.«01_k».proof.Proof.PartsA
public import proofs.«01_k».proof.Proof.PartsB
public import proofs.«01_k».proof.Proof.PartsC

@[expose] public section

set_option backward.proofsInPublic true

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 69) → ℕ)

/-- What the copies in take. -/
def Ins (c : Dev nD) : sProp 𝕄 :=
  iprop(LocTok (F := F) c (iS 0) ∗ LocTok (F := F) c (iS (Fin.succ 0)) ∗ LocTok (F := F) c (iS (Fin.succ 1)) ∗ LocTok (F := F) c (iS (Fin.succ 2))
    ∗ LocTok (F := F) c (iS (Fin.succ 3)) ∗ WIn m c ∗ XIn m c (iC 0 c) ∗ XIn m c (iC 1 c)
    ∗ XIn m c (iC 2 c) ∗ XIn m c (iC 3 c))

/-- The accumulator, by the pieces it is written in. -/
def Accs (c : Dev nD) : sProp 𝕄 :=
  iprop(AccE (F := F) c (dn 0 c) 0 0 ∗ AccE (F := F) c (dn 0 c) 1 0 ∗ AccE (F := F) c (dn 1 c) 0 1 ∗ AccE (F := F) c (dn 1 c) 1 1
    ∗ Acc5E (F := F) c (c) 0 ∗ Acc5E (F := F) c (opp c) 0 ∗ Acc5E (F := F) c (up 0 c) 0 ∗ Acc5E (F := F) c (c) 1
    ∗ Acc5E (F := F) c (opp c) 1 ∗ Acc5E (F := F) c (up 1 c) 1)

/-- The landings to come. -/
def Landings (c : Dev nD) : sProp 𝕄 :=
  iprop(Fly (F := F) c (rS 0 0) ∗ Fly (F := F) c (rS 0 1) ∗ Fly (F := F) c (rS 0 2) ∗ Fly (F := F) c (rS 0 3)
    ∗ Fly (F := F) c (rS 0 4) ∗ Fly (F := F) c (rS 0 5) ∗ Fly (F := F) c (rS 0 6) ∗ Fly (F := F) c (rS 0 7)
    ∗ Fly (F := F) c (rS 0 8) ∗ Fly (F := F) c (rS 0 9) ∗ Fly (F := F) c (rS 0 10) ∗ Fly (F := F) c (rS 0 11)
    ∗ Fly (F := F) c (rS 1 0) ∗ Fly (F := F) c (rS 1 1) ∗ Fly (F := F) c (rS 1 2) ∗ Fly (F := F) c (rS 1 3)
    ∗ Fly (F := F) c (rS 1 4) ∗ Fly (F := F) c (rS 1 5) ∗ Fly (F := F) c (rS 1 6) ∗ Fly (F := F) c (rS 1 7)
    ∗ Fly (F := F) c (rS 1 8) ∗ Fly (F := F) c (rS 1 9) ∗ Fly (F := F) c (rS 1 10) ∗ Fly (F := F) c (rS 1 11))

/-- The rights to the copies out. -/
def OutToks (c : Dev nD) : sProp 𝕄 :=
  iprop(LocTok (F := F) c (oS 0) ∗ LocTok (F := F) c (oS 1) ∗ LocTok (F := F) c (oS 2) ∗ LocTok (F := F) c (oS 3)
    ∗ LocTok (F := F) c (oS 4) ∗ LocTok (F := F) c (oS 5) ∗ LocTok (F := F) c (oS 6) ∗ LocTok (F := F) c (oS 7)
    ∗ LocTok (F := F) c (oS 8) ∗ LocTok (F := F) c (oS 9) ∗ LocTok (F := F) c (oS 10) ∗ LocTok (F := F) c (oS 11)
    ∗ LocTok (F := F) c (oS 12) ∗ LocTok (F := F) c (oS 13) ∗ LocTok (F := F) c (oS 14) ∗ LocTok (F := F) c (oS 15))

/-- The result, by the pieces it is written in. -/
def OutPieces (c : Dev nD) : sProp 𝕄 :=
  iprop(OutE (F := F) c 0 ∗ OutE (F := F) c 1 ∗ OutE (F := F) c 2 ∗ OutE (F := F) c 3
    ∗ OutE (F := F) c 4 ∗ OutE (F := F) c 5 ∗ OutE (F := F) c 6 ∗ OutE (F := F) c 7
    ∗ OutE (F := F) c 8 ∗ OutE (F := F) c 9 ∗ OutE (F := F) c 10 ∗ OutE (F := F) c 11
    ∗ OutE (F := F) c 12 ∗ OutE (F := F) c 13 ∗ OutE (F := F) c 14 ∗ OutE (F := F) c 15)

/-- What the copies in leave. -/
def InsBack (c : Dev nD) : sProp 𝕄 :=
  iprop(wPay m c ∗ xPay m c (iC 0 c) ∗ xPay m c (iC 1 c) ∗ xPay m c (iC 2 c)
    ∗ xPay m c (iC 3 c))

/-- The sources of the transfers of the first direction, again. -/
def SentA (c : Dev nD) : sProp 𝕄 :=
  iprop(sendPay m c 0 0 ∗ sendPay m c 0 1 ∗ sendPay m c 0 2 ∗ sendPay m c 0 3
    ∗ sendPay m c 0 4 ∗ sendPay m c 0 5 ∗ sendPay m c 0 6 ∗ sendPay m c 0 7
    ∗ sendPay m c 0 8 ∗ sendPay m c 0 9 ∗ sendPay m c 0 10 ∗ sendPay m c 0 11)

/-- The sources of the transfers of the second direction, again. -/
def SentB (c : Dev nD) : sProp 𝕄 :=
  iprop(sendPay m c 1 0 ∗ sendPay m c 1 1 ∗ sendPay m c 1 2 ∗ sendPay m c 1 3
    ∗ sendPay m c 1 4 ∗ sendPay m c 1 5 ∗ sendPay m c 1 6 ∗ sendPay m c 1 7
    ∗ sendPay m c 1 8 ∗ sendPay m c 1 9 ∗ sendPay m c 1 10 ∗ sendPay m c 1 11)

/-- The slots of the first direction that are read by the device itself. -/
def GotA (c : Dev nD) : sProp 𝕄 :=
  iprop(recvPay m c 0 0 ∗ recvPay m c 0 1 ∗ recvPay m c 0 2 ∗ recvPay m c 0 3
    ∗ recvPay m c 0 4 ∗ recvPay m c 0 5)

/-- The slots of the second direction that are read by the device itself. -/
def GotB (c : Dev nD) : sProp 𝕄 :=
  iprop(recvPay m c 1 0 ∗ recvPay m c 1 1 ∗ recvPay m c 1 2 ∗ recvPay m c 1 3
    ∗ recvPay m c 1 4 ∗ recvPay m c 1 5)

/-- What the copies out leave. -/
def OutsBack (c : Dev nD) : sProp 𝕄 :=
  iprop(outPay m c 0 ∗ outPay m c 1 ∗ outPay m c 2 ∗ outPay m c 3
    ∗ outPay m c 4 ∗ outPay m c 5 ∗ outPay m c 6 ∗ outPay m c 7
    ∗ outPay m c 8 ∗ outPay m c 9 ∗ outPay m c 10 ∗ outPay m c 11
    ∗ outPay m c 12 ∗ outPay m c 13 ∗ outPay m c 14 ∗ outPay m c 15)

/-- The waits of the kernel, the last first. -/
def waits : List (Option (Fin 69)) :=
  [some (oS 15), some (oS 14), some (oS 13), some (oS 12), some (oS 11), some (oS 10), some (oS 9), some (oS 8),
   some (oS 7), some (oS 6), some (oS 5), some (oS 4), some (oS 3), some (oS 2), some (oS 1), some (oS 0),
   some (rS 1 11), some (sS 1 11), some (rS 0 11), some (sS 0 11), some (rS 1 10), some (sS 1 10), some (rS 0 10), some (sS 0 10),
   some (rS 1 9), some (sS 1 9), some (rS 0 9), some (sS 0 9), some (rS 1 8), some (sS 1 8), some (rS 0 8), some (sS 0 8),
   some (rS 1 7), some (sS 1 7), some (rS 0 7), some (sS 0 7), some (rS 1 6), some (sS 1 6), some (rS 0 6), some (sS 0 6),
   some (rS 1 5), some (sS 1 5), some (rS 0 5), some (sS 0 5), some (rS 1 3), some (sS 1 3), some (rS 0 3), some (sS 0 3),
   some (rS 1 4), some (sS 1 4), some (rS 0 4), some (sS 0 4), some (rS 1 2), some (sS 1 2), some (rS 0 2), some (sS 0 2),
   some (rS 1 1), some (sS 1 1), some (rS 0 1), some (sS 0 1), some (rS 1 0), some (sS 1 0), some (rS 0 0), some (sS 0 0),
   some (iS (Fin.succ 3)), some (iS (Fin.succ 2)), none, some (iS (Fin.succ 1)), some (iS (Fin.succ 0)), some (iS 0)]

set_option maxHeartbeats 4000000 in
/-- The kernel at one device. -/
theorem body_wp (c : Dev nD) {Q : PUnit → sProp 𝕄} :
    INV m K ⊢ iprop(Ins m c -∗ Accs (F := F) c -∗ BarTok (F := F) c -∗ give (F := F) c 1 0 -∗ give (F := F) c 0 1 -∗ Toks (F := F) c 0 1 -∗ Toks (F := F) c 1 0
      -∗ Landings (F := F) c -∗ OutToks (F := F) c -∗ OutPieces (F := F) c -∗ St (F := F) c (rem 0) []
      -∗ (InsBack m c -∗ SentA m c -∗ SentB m c -∗ GotA m c -∗ GotB m c -∗ OutsBack m c -∗ St (F := F) c (rem 26) waits -∗ Q ⟨⟩)
      -∗ WP c (cc0_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) Q) := by
  unfold Ins Accs Landings OutToks OutPieces InsBack SentA SentB GotA GotB OutsBack
  iintro #HI ⟨Ti_0, Ti_1, Ti_2, Ti_3, Ti_4, Wi, Xi_0, Xi_1, Xi_2, Xi_3⟩ ⟨E_0_0, E_0_1, E_1_0, E_1_1, F_0_0, F_0_1, F_0_2, F_1_0, F_1_1, F_1_2⟩ Bar g10 g01 Tk0 Tk1 ⟨N_0_0, N_0_1, N_0_2, N_0_3, N_0_4, N_0_5, N_0_6, N_0_7, N_0_8, N_0_9, N_0_10, N_0_11, N_1_0, N_1_1, N_1_2, N_1_3, N_1_4, N_1_5, N_1_6, N_1_7, N_1_8, N_1_9, N_1_10, N_1_11⟩ ⟨To_0, To_1, To_2, To_3, To_4, To_5, To_6, To_7, To_8, To_9, To_10, To_11, To_12, To_13, To_14, To_15⟩ ⟨Oe_0, Oe_1, Oe_2, Oe_3, Oe_4, Oe_5, Oe_6, Oe_7, Oe_8, Oe_9, Oe_10, Oe_11, Oe_12, Oe_13, Oe_14, Oe_15⟩ HS Hk
  simp only [cc0_body_eq_skeleton]; unfold cc0_body_skel
  simp only [k0_part37_eq_skeleton]; unfold k0_part37_skel
  simp only [Prog.lift, Prog.bind_op, Prog.bind_ret, Prog.pure_eq_ret, Prog.bind_assoc, wp_bind]
  iapply (part_1 m K c []) $$ HI Ti_0 Wi Ti_1 Xi_0
  iintro %v2 %v4 %v6 %v8 %v10 %v12 Ni_0 Ni_1
  iapply (part_2 m K c _ _ _) $$ HI Ti_2 Xi_1 Ti_3 Xi_2 Ti_4 Xi_3 Ni_0 Ni_1 HS
  iintro Ni_2 Ni_3 Ni_4 W X_0 HS
  iapply (part_3 m K c _ _ _ _ _) $$ HI E_0_0 Ni_2 W E_1_0 Bar g10 g01 HS
  iintro %r3 S_0_0 X_1 W S_1_0 g3 g1 HS
  ihave Rd := (ready (F := F) c (sh 3 c) 0 1 (tgt_3 c).1 (tgt_3 c).2) $$ [Tk0 g3]
  · isplitl [Tk0] <;> iassumption
  unfold Readys
  icases Rd with ⟨Y_0_0, Y_0_1, Y_0_2, Y_0_3, Y_0_8, Y_0_9, Y_1_4, Y_1_5, Y_1_6, Y_1_7, Y_1_10, Y_1_11⟩
  ihave Rd := (ready (F := F) c (sh 1 c) 1 0 (tgt_1 c).1 (tgt_1 c).2) $$ [Tk1 g1]
  · isplitl [Tk1] <;> iassumption
  unfold Readys
  icases Rd with ⟨Y_1_0, Y_1_1, Y_1_2, Y_1_3, Y_1_8, Y_1_9, Y_0_4, Y_0_5, Y_0_6, Y_0_7, Y_0_10, Y_0_11⟩
  iapply (part_4 m K c _ _ _ _ _ _) $$ HI Y_0_0 S_0_0 Y_1_0 S_1_0 X_0 W E_0_1 X_1 HS
  iintro %v115 G_0_0 G_1_0 X_0 W S_0_1 X_1 HS
  iapply (part_5 m K c _ _ _ _ _ _ _) $$ HI E_1_1 Y_0_1 S_0_1 Y_1_1 Ni_3 HS
  iintro %r5 G_0_1 G_1_1 X_2 HS
  iapply (part_6 m K c _ _ _ _) $$ HI X_2 W F_0_1 F_1_1 Y_0_4 HS
  iintro %r6 X_2 W S_0_5 S_1_4 S_1_5 G_0_4 HS
  iapply (part_7 m K c _ _ _ _ _) $$ HI Y_1_4 S_1_4 Y_0_5 S_0_5 Y_1_5 S_1_5 HS
  iintro %r7 G_1_4 G_0_5 G_1_5 HS
  iapply (part_8 m K c _ _ _ _) $$ HI Ni_4 W F_0_0 F_1_0 X_1 F_0_2 X_0 HS
  iintro %v243 X_3 W B_0_0 B_0_1 B_1_0 B_1_1 X_1 U_0_0 U_0_1 X_0 HS
  iapply (part_9 m K c _ _ _ _) $$ HI W F_1_2 G_0_0 N_0_0 G_1_0 HS
  iintro %r9 W U_1_0 U_1_1 Z_0_0 R_0_0 Z_1_0 HS
  iapply (part_10 m K c _ _) $$ HI N_1_0 B_0_0 R_0_0 B_1_0 HS
  iintro %r10 R_1_0 R_0_0 S_0_2 S_1_2 HS
  iapply (part_11 m K c _ _ _ _) $$ HI Y_0_2 S_0_2 Y_1_2 S_1_2 G_0_1 HS
  iintro %r11 G_0_2 G_1_2 Z_0_1 HS
  iapply (part_12 m K c _ _ _) $$ HI N_0_1 G_1_1 N_1_1 B_0_1 HS
  iintro %r12 R_0_1 Z_1_1 R_1_1 S_0_3 HS
  iapply (part_13 m K c _ _ _ _ _) $$ HI B_1_1 R_1_1 Y_0_3 S_0_3 HS
  iintro %r13 R_1_1 S_1_3 G_0_3 HS
  iapply (part_14 m K c _ _ _) $$ HI Y_1_3 S_1_3 G_0_2 N_0_2 G_1_2 HS
  iintro %r14 G_1_3 Z_0_2 R_0_2 Z_1_2 HS
  iapply (part_15 m K c _ _ _) $$ HI N_1_2 G_0_4 N_0_4 G_1_4 HS
  iintro %r15 R_1_2 Z_0_4 R_0_4 Z_1_4 HS
  iapply (part_16 m K c _ _ _) $$ HI N_1_4 U_0_0 R_0_2 R_0_4 U_1_0 R_1_2 HS
  iintro %v475 R_1_4 R_0_2 R_0_4 S_0_6 S_0_8 O_0 U_1_0 R_1_2 HS
  iapply (part_17 m K c _ _ _ _ _ _) $$ HI U_1_0 Y_0_6 S_0_6 Y_1_6 HS
  iintro %r17 S_1_8 O_1 G_0_6 G_1_6 HS
  iapply (part_18 m K c _ _ _ _ _) $$ HI Y_0_8 S_0_8 Y_1_8 S_1_8 O_0 To_0 Oe_0 HS
  iintro %r18 G_0_8 G_1_8 No_0 HS
  iapply (part_19 m K c _ _ _) $$ HI O_1 To_1 Oe_1 G_0_3 N_0_3 G_1_3 HS
  iintro %r19 No_1 Z_0_3 R_0_3 Z_1_3 HS
  iapply (part_20 m K c _ _ _) $$ HI N_1_3 G_0_5 N_0_5 G_1_5 HS
  iintro %r20 R_1_3 Z_0_5 R_0_5 Z_1_5 HS
  iapply (part_21 m K c _ _ _) $$ HI N_1_5 U_0_1 R_0_3 R_0_5 U_1_1 R_1_3 HS
  iintro %v619 R_1_5 R_0_3 R_0_5 S_0_7 S_0_9 O_2 U_1_1 R_1_3 HS
  iapply (part_22 m K c _ _ _ _ _ _) $$ HI U_1_1 Y_0_7 S_0_7 Y_1_7 HS
  iintro %r22 S_1_9 O_3 G_0_7 G_1_7 HS
  iapply (part_23 m K c _ _ _ _ _) $$ HI Y_0_9 S_0_9 Y_1_9 S_1_9 O_2 To_2 Oe_2 HS
  iintro %r23 G_0_9 G_1_9 No_2 HS
  iapply (part_24 m K c _ _ _) $$ HI O_3 To_3 Oe_3 G_0_6 N_0_6 G_1_6 HS
  iintro %r24 No_3 Z_0_6 S_0_10 O_4 Z_1_6 HS
  iapply (part_25 m K c _ _ _ _) $$ HI N_1_6 S_0_10 Y_0_10 Y_1_10 HS
  iintro %r25 O_5 G_0_10 G_1_10 HS
  iapply (part_26 m K c _ _ _) $$ HI O_4 To_4 Oe_4 O_5 To_5 Oe_5 G_0_7 N_0_7 G_1_7 HS
  iintro %r26 No_4 No_5 Z_0_7 S_0_11 O_6 Z_1_7 HS
  iapply (part_27 m K c _ _ _ _) $$ HI N_1_7 S_0_11 Y_0_11 Y_1_11 HS
  iintro %r27 O_7 G_0_11 G_1_11 HS
  iapply (part_28 m K c _ _ _) $$ HI O_6 To_6 Oe_6 O_7 To_7 Oe_7 G_0_8 N_0_8 HS
  iintro %r28 No_6 No_7 Z_0_8 O_8 HS
  iapply (part_29 m K c _ _ _) $$ HI G_1_8 N_1_8 O_8 To_8 Oe_8 To_9 Oe_9 HS
  iintro %r29 Z_1_8 No_8 No_9 HS
  iapply (part_30 m K c _ _ _ _) $$ HI G_0_9 N_0_9 G_1_9 N_1_9 HS
  iintro %r30 Z_0_9 O_10 Z_1_9 O_11 HS
  iapply (part_31 m K c _ _ _) $$ HI O_10 To_10 Oe_10 O_11 To_11 Oe_11 G_0_10 N_0_10 HS
  iintro %r31 No_10 No_11 Z_0_10 O_12 HS
  iapply (part_32 m K c _ _ _ _) $$ HI G_1_10 N_1_10 O_12 To_12 Oe_12 HS
  iintro %r32 Z_1_10 O_13 No_12 HS
  iapply (part_33 m K c _ _ _) $$ HI O_13 To_13 Oe_13 G_0_11 N_0_11 G_1_11 HS
  iintro %r33 No_13 Z_0_11 O_14 Z_1_11 HS
  iapply (part_34 m K c _ _ _ _ _) $$ HI N_1_11 O_14 To_14 Oe_14 To_15 Oe_15 No_0 No_1 HS
  iintro %r34 No_14 No_15 D_0 D_1 HS
  iapply (part_35 m K c _) $$ HI No_2 No_3 No_4 No_5 No_6 No_7 HS
  iintro %r35 D_2 D_3 D_4 D_5 D_6 D_7 HS
  iapply (part_36 m K c _) $$ HI No_8 No_9 No_10 No_11 No_12 HS
  iintro %r36 D_8 D_9 D_10 D_11 D_12 HS
  iapply (step_wait_out m K c 13 _ rfl (Memref.slice_unit_congr outW (k0_off6_eq c 0 0) _ _ _ (fun _ => rfl))) $$ HI No_13 HS
  iintro ⟨D_13, HS⟩
  iapply (step_wait_out m K c 14 _ rfl (Memref.slice_unit_congr outW (k0_off5_eq c 2 1) _ _ _ (fun _ => rfl))) $$ HI No_14 HS
  iintro ⟨D_14, HS⟩
  iapply (step_wait_out m K c 15 _ rfl (Memref.slice_unit_congr outW (k0_off6_eq c 0 1) _ _ _ (fun _ => rfl))) $$ HI No_15 HS
  iintro ⟨D_15, HS⟩
  iapply step_ret
  iapply Hk $$ [W X_0 X_1 X_2 X_3] [Z_0_0 Z_0_1 Z_0_2 Z_0_3 Z_0_4 Z_0_5 Z_0_6 Z_0_7 Z_0_8 Z_0_9 Z_0_10 Z_0_11] [Z_1_0 Z_1_1 Z_1_2 Z_1_3 Z_1_4 Z_1_5 Z_1_6 Z_1_7 Z_1_8 Z_1_9 Z_1_10 Z_1_11] [R_0_0 R_0_1 R_0_2 R_0_3 R_0_4 R_0_5] [R_1_0 R_1_1 R_1_2 R_1_3 R_1_4 R_1_5] [D_0 D_1 D_2 D_3 D_4 D_5 D_6 D_7 D_8 D_9 D_10 D_11 D_12 D_13 D_14 D_15] [HS]
  · isplitl [W]; · iexact W
    isplitl [X_0]; · iexact X_0
    isplitl [X_1]; · iexact X_1
    isplitl [X_2]; · iexact X_2
    iexact X_3
  · isplitl [Z_0_0]; · iexact Z_0_0
    isplitl [Z_0_1]; · iexact Z_0_1
    isplitl [Z_0_2]; · iexact Z_0_2
    isplitl [Z_0_3]; · iexact Z_0_3
    isplitl [Z_0_4]; · iexact Z_0_4
    isplitl [Z_0_5]; · iexact Z_0_5
    isplitl [Z_0_6]; · iexact Z_0_6
    isplitl [Z_0_7]; · iexact Z_0_7
    isplitl [Z_0_8]; · iexact Z_0_8
    isplitl [Z_0_9]; · iexact Z_0_9
    isplitl [Z_0_10]; · iexact Z_0_10
    iexact Z_0_11
  · isplitl [Z_1_0]; · iexact Z_1_0
    isplitl [Z_1_1]; · iexact Z_1_1
    isplitl [Z_1_2]; · iexact Z_1_2
    isplitl [Z_1_3]; · iexact Z_1_3
    isplitl [Z_1_4]; · iexact Z_1_4
    isplitl [Z_1_5]; · iexact Z_1_5
    isplitl [Z_1_6]; · iexact Z_1_6
    isplitl [Z_1_7]; · iexact Z_1_7
    isplitl [Z_1_8]; · iexact Z_1_8
    isplitl [Z_1_9]; · iexact Z_1_9
    isplitl [Z_1_10]; · iexact Z_1_10
    iexact Z_1_11
  · isplitl [R_0_0]; · iexact R_0_0
    isplitl [R_0_1]; · iexact R_0_1
    isplitl [R_0_2]; · iexact R_0_2
    isplitl [R_0_3]; · iexact R_0_3
    isplitl [R_0_4]; · iexact R_0_4
    iexact R_0_5
  · isplitl [R_1_0]; · iexact R_1_0
    isplitl [R_1_1]; · iexact R_1_1
    isplitl [R_1_2]; · iexact R_1_2
    isplitl [R_1_3]; · iexact R_1_3
    isplitl [R_1_4]; · iexact R_1_4
    iexact R_1_5
  · isplitl [D_0]; · iexact D_0
    isplitl [D_1]; · iexact D_1
    isplitl [D_2]; · iexact D_2
    isplitl [D_3]; · iexact D_3
    isplitl [D_4]; · iexact D_4
    isplitl [D_5]; · iexact D_5
    isplitl [D_6]; · iexact D_6
    isplitl [D_7]; · iexact D_7
    isplitl [D_8]; · iexact D_8
    isplitl [D_9]; · iexact D_9
    isplitl [D_10]; · iexact D_10
    isplitl [D_11]; · iexact D_11
    isplitl [D_12]; · iexact D_12
    isplitl [D_13]; · iexact D_13
    isplitl [D_14]; · iexact D_14
    iexact D_15
  · iexact HS

end Cert.RingMM

end
-- ==== Proof.Pieces.lean ====
/-
The buffers cut into the pieces the kernel moves, and the pieces put together again.
-/
module

public import proofs.«01_k».proof.Proof.Body

@[expose] public section

set_option backward.proofsInPublic true

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 69) → ℕ)

/-! ## Gathering pieces -/

/-- Values given on disjoint pieces are the values of one array. -/
theorem glue {s : Shape} {α : Type} [Nonempty α] {T : Type} (r : T → Rect s)
    (hd : ∀ t t', t ≠ t' → Disjoint (r t).set (r t').set) (W : (t : T) → (r t).shape.Idx → α) :
    ∃ X : s.Idx → α, ∀ t j, X ((r t).emb j) = W t j := by
  classical
  refine ⟨fun x => if h : ∃ p : (t : T) × (r t).shape.Idx, (r p.1).emb p.2 = x then W h.choose.1 h.choose.2 else Classical.arbitrary α, fun t j => ?_⟩
  have h : ∃ p : (t : T) × (r t).shape.Idx, (r p.1).emb p.2 = (r t).emb j := ⟨⟨t, j⟩, rfl⟩
  refine (dif_pos h).trans ?_
  have hp : h.choose = ⟨t, j⟩ := by
    have e := h.choose_spec
    generalize h.choose = p at e
    obtain ⟨t', j'⟩ := p
    by_cases ht : t' = t
    · subst ht
      exact congrArg _ ((r t').emb.injective e)
    · exfalso
      have m1 : (r t').emb j' ∈ (r t').set := by rw [← Rect.map_emb_univ]; exact Finset.mem_map_of_mem _ (Finset.mem_univ _)
      have m2 : (r t).emb j ∈ (r t).set := by rw [← Rect.map_emb_univ]; exact Finset.mem_map_of_mem _ (Finset.mem_univ _)
      exact Finset.disjoint_left.mp (hd t' t ht) m1 (e ▸ m2)
  rw [hp]

section Gather
variable (c : Dev nD) {sp : Space} {s : Shape} {e : EltTy} (mm : Memref sig .tc sp s e) {T : Type} [Fintype T] [DecidableEq T]
  (r : T → Rect s) (hr : ∀ t a, (r t).stride a = 1)
  (hd : ∀ t t', t ≠ t' → Disjoint (r t).set (r t').set)
  (hcov : (Finset.univ : Finset T).biUnion (fun t => (r t).set) = Finset.univ)
include hd hcov

/-- An array whatever it holds is its pieces, whatever they hold, -/
theorem cut_any : iprop(∃ X, ownsTc (Val := Elt F) c mm fullShare X)
    ⊢ (bigSep Finset.univ fun t => iprop(∃ V, ownsTc (Val := Elt F) c (mm.slice (r t) (hr t)) fullShare V) : sProp 𝕄) := by
  iintro ⟨%X, H⟩
  ihave H := (owns_rects (c : Thread nD τ) mm fullShare r hr hd hcov X) $$ H
  have h : (bigSep Finset.univ fun t => (ownsTc (Val := Elt F) c (mm.slice (r t) (hr t)) fullShare (fun j => X ((r t).emb j)) : sProp 𝕄))
      ⊢ bigSep Finset.univ fun t => iprop(∃ V, ownsTc (Val := Elt F) c (mm.slice (r t) (hr t)) fullShare V) :=
    bigSep_mono fun t _ => show (ownsTc (Val := Elt F) c (mm.slice (r t) (hr t)) fullShare (fun j => X ((r t).emb j)) : sProp 𝕄)
      ⊢ iprop(∃ V, ownsTc (Val := Elt F) c (mm.slice (r t) (hr t)) fullShare V) from by iintro H; iexists _; iexact H
  iapply h; iexact H

/-- and back. -/
theorem join_any : (bigSep Finset.univ fun t => iprop(∃ V, ownsTc (Val := Elt F) c (mm.slice (r t) (hr t)) fullShare V))
    ⊢ (iprop(∃ X, ownsTc (Val := Elt F) c mm fullShare X) : sProp 𝕄) := by
  iintro H
  ihave H := (BI.bigSep_exists_pi (Y := fun t => (r t).shape.Idx → Elt F e) Finset.univ
    (fun t V => (ownsTc (Val := Elt F) c (mm.slice (r t) (hr t)) fullShare V : sProp 𝕄))) $$ H
  icases H with ⟨%W, H⟩
  obtain ⟨X, hX⟩ := glue r hd W
  iexists X
  iapply (owns_of_rects (c : Thread nD τ) mm fullShare r hr hd hcov X)
  have h : (bigSep Finset.univ fun t => (ownsTc (Val := Elt F) c (mm.slice (r t) (hr t)) fullShare (W t) : sProp 𝕄))
      = bigSep Finset.univ fun t => ownsTc (Val := Elt F) c (mm.slice (r t) (hr t)) fullShare (fun j => X ((r t).emb j)) :=
    bigSep_congr fun t _ => by rw [show (fun j => X ((r t).emb j)) = W t from funext (hX t)]
  rw [← h]; iexact H

end Gather

/-! ## The families of pieces -/

/-- Different half chunks do not meet, -/
theorem rHalf_disjoint (q q' : Dev nD) (j j' h h' : Fin 2) (hne : (q, j, h) ≠ (q', j', h')) : Disjoint (rHalf q j h).set (rHalf q' j' h').set := by
  have a1 := q.isLt; have a2 := q'.isLt
  by_cases hh : h = h'
  · refine Rect.unit_disjoint (s := S2048x2048) 0 ?_
    have : q.val ≠ q'.val ∨ j.val ≠ j'.val := by
      by_contra hc
      push Not at hc
      exact hne (by rw [Fin.ext hc.1, Fin.ext hc.2, hh])
    show 512 * q.val + 256 * j.val + 256 ≤ 512 * q'.val + 256 * j'.val ∨ 512 * q'.val + 256 * j'.val + 256 ≤ 512 * q.val + 256 * j.val
    omega
  · refine Rect.unit_disjoint (s := S2048x2048) 1 ?_
    have : h.val ≠ h'.val := fun e => hh (Fin.ext e)
    show 1024 * h.val + 1024 ≤ 1024 * h'.val ∨ 1024 * h'.val + 1024 ≤ 1024 * h.val
    omega

/-- and every place lies in one. -/
theorem rHalf_mem (x : S2048x2048.Idx) : ∃ p : Dev nD × Fin 2 × Fin 2, x ∈ (rHalf p.1 p.2.1 p.2.2).set := by
  have h0 : (x 0).val < 2048 := (x 0).isLt
  have h1 : (x 1).val < 2048 := (x 1).isLt
  refine ⟨(⟨(x 0).val / 512, by show _ < 4; omega⟩, ⟨(x 0).val / 256 % 2, by omega⟩, ⟨(x 1).val / 1024, by omega⟩), ?_⟩
  refine Rect.mem_set_unit.mpr (Fin.forall_fin_two.mpr ⟨?_, ?_⟩)
  · show 512 * ((x 0).val / 512) + 256 * ((x 0).val / 256 % 2) ≤ (x 0).val
      ∧ (x 0).val < 512 * ((x 0).val / 512) + 256 * ((x 0).val / 256 % 2) + 256
    omega
  · show 1024 * ((x 1).val / 1024) ≤ (x 1).val ∧ (x 1).val < 1024 * ((x 1).val / 1024) + 1024
    omega

/-- Different chunks do not meet, -/
theorem rChunk_disjoint (q q' : Dev nD) (h h' : Fin 2) (hne : (q, h) ≠ (q', h')) : Disjoint (rChunk q h).set (rChunk q' h').set := by
  have a1 := q.isLt; have a2 := q'.isLt
  by_cases hh : h = h'
  · refine Rect.unit_disjoint (s := S2048x2048) 0 ?_
    have : q.val ≠ q'.val := fun hc => hne (by rw [Fin.ext hc, hh])
    show 512 * q.val + 512 ≤ 512 * q'.val ∨ 512 * q'.val + 512 ≤ 512 * q.val
    omega
  · refine Rect.unit_disjoint (s := S2048x2048) 1 ?_
    have : h.val ≠ h'.val := fun e => hh (Fin.ext e)
    show 1024 * h.val + 1024 ≤ 1024 * h'.val ∨ 1024 * h'.val + 1024 ≤ 1024 * h.val
    omega

/-- and every place lies in one. -/
theorem rChunk_mem (x : S2048x2048.Idx) : ∃ p : Dev nD × Fin 2, x ∈ (rChunk p.1 p.2).set := by
  have h0 : (x 0).val < 2048 := (x 0).isLt
  have h1 : (x 1).val < 2048 := (x 1).isLt
  refine ⟨(⟨(x 0).val / 512, by show _ < 4; omega⟩, ⟨(x 1).val / 1024, by omega⟩), ?_⟩
  refine Rect.mem_set_unit.mpr (Fin.forall_fin_two.mpr ⟨?_, ?_⟩)
  · show 512 * ((x 0).val / 512) ≤ (x 0).val ∧ (x 0).val < 512 * ((x 0).val / 512) + 512
    omega
  · show 1024 * ((x 1).val / 1024) ≤ (x 1).val ∧ (x 1).val < 1024 * ((x 1).val / 1024) + 1024
    omega

/-- Different row chunks do not meet, -/
theorem rX_disjoint (q q' : Dev nD) (hne : q ≠ q') : Disjoint (rX q).set (rX q').set := by
  have a1 := q.isLt; have a2 := q'.isLt
  have : q.val ≠ q'.val := fun hc => hne (Fin.ext hc)
  refine Rect.unit_disjoint (s := S2048x512) 0 ?_
  show 512 * q.val + 512 ≤ 512 * q'.val ∨ 512 * q'.val + 512 ≤ 512 * q.val
  omega

/-- and every place lies in one. -/
theorem rX_mem (x : S2048x512.Idx) : ∃ q : Dev nD, x ∈ (rX q).set := by
  have h0 : (x 0).val < 2048 := (x 0).isLt
  have h1 : (x 1).val < 512 := (x 1).isLt
  refine ⟨⟨(x 0).val / 512, by show _ < 4; omega⟩, Rect.mem_set_unit.mpr (Fin.forall_fin_two.mpr ⟨?_, ?_⟩)⟩
  · show 512 * ((x 0).val / 512) ≤ (x 0).val ∧ (x 0).val < 512 * ((x 0).val / 512) + 512
    omega
  · show 0 ≤ (x 1).val ∧ (x 1).val < 0 + 512
    omega

/-- Different landing slots do not meet, -/
theorem rSlot_disjoint (s s' : Fin 12) (hne : s ≠ s') : Disjoint (rSlot s).set (rSlot s').set := by
  have : s.val ≠ s'.val := fun hc => hne (Fin.ext hc)
  refine Rect.unit_disjoint (s := S12x256x1024) 0 ?_
  show s.val + 1 ≤ s'.val ∨ s'.val + 1 ≤ s.val
  omega

/-- and every place lies in one. -/
theorem rSlot_mem (x : S12x256x1024.Idx) : ∃ s : Fin 12, x ∈ (rSlot s).set := by
  have h0 : (x 0).val < 12 := (x 0).isLt
  have h1 : (x 1).val < 256 := (x 1).isLt
  have h2 : (x 2).val < 1024 := (x 2).isLt
  refine ⟨⟨(x 0).val, h0⟩, Rect.mem_set_unit.mpr fun a => ?_⟩
  match a with
  | 0 => exact ⟨le_refl _, Nat.lt_succ_self _⟩
  | 1 => exact ⟨Nat.zero_le _, by show (x 1).val < 0 + 256; omega⟩
  | 2 => exact ⟨Nat.zero_le _, by show (x 2).val < 0 + 1024; omega⟩

/-- Pieces that contain every place cover the array, also when they are listed another way. -/
theorem cover_of {s : Shape} {T T' : Type} [Fintype T] (r : T' → Rect s) (g : T → T') (hg : Function.Surjective g)
    (h : ∀ x : s.Idx, ∃ p, x ∈ (r p).set) : (Finset.univ : Finset T).biUnion (fun t => (r (g t)).set) = Finset.univ := by
  ext x
  simp only [Finset.mem_biUnion, Finset.mem_univ, true_and, iff_true]
  obtain ⟨p, hp⟩ := h x
  obtain ⟨t, rfl⟩ := hg p
  exact ⟨t, hp⟩

/-- The copies out of a device write every half chunk once. -/
theorem out_bij (c : Dev nD) : Function.Bijective (fun k : Fin 16 => (oC k c, oJ k, oH k)) := by
  revert c; decide +kernel
/-- The chunks of a device, by place from it and column half. -/
theorem chunk_bij (c : Dev nD) : Function.Bijective (fun p : Fin 4 × Fin 2 => (oC (ko p.1 0 p.2) c, p.2)) := by
  revert c; decide +kernel
/-- The copies in of a device read every row chunk once. -/
theorem in_bij (c : Dev nD) : Function.Bijective (fun k : Fin 4 => iC k c) := by
  revert c; decide +kernel

abbrev oR (c : Dev nD) (k : Fin 16) : Rect S2048x2048 := rHalf (oC k c) (oJ k) (oH k)
abbrev cR (c : Dev nD) (p : Fin 4 × Fin 2) : Rect S2048x2048 := rChunk (oC (ko p.1 0 p.2) c) p.2
abbrev iR (c : Dev nD) (k : Fin 4) : Rect S2048x512 := rX (iC k c)

/-- The half chunks copied out do not meet, -/
theorem oR_disjoint (c : Dev nD) (k k' : Fin 16) (h : k ≠ k') : Disjoint (oR c k).set (oR c k').set :=
  rHalf_disjoint _ _ _ _ _ _ fun e => h ((out_bij c).1 e)
/-- and make up the result. -/
theorem oR_cover (c : Dev nD) : (Finset.univ : Finset (Fin 16)).biUnion (fun k => (oR c k).set) = Finset.univ :=
  cover_of (fun p : Dev nD × Fin 2 × Fin 2 => rHalf p.1 p.2.1 p.2.2) (fun k : Fin 16 => (oC k c, oJ k, oH k)) (out_bij c).2 rHalf_mem
/-- The chunks of the accumulator do not meet, -/
theorem cR_disjoint (c : Dev nD) (p p' : Fin 4 × Fin 2) (h : p ≠ p') : Disjoint (cR c p).set (cR c p').set :=
  rChunk_disjoint _ _ _ _ fun e => h ((chunk_bij c).1 e)
/-- and make up the accumulator. -/
theorem cR_cover (c : Dev nD) : (Finset.univ : Finset (Fin 4 × Fin 2)).biUnion (fun p => (cR c p).set) = Finset.univ :=
  cover_of (fun p : Dev nD × Fin 2 => rChunk p.1 p.2) (fun p : Fin 4 × Fin 2 => (oC (ko p.1 0 p.2) c, p.2)) (chunk_bij c).2 rChunk_mem
/-- The row chunks copied in do not meet, -/
theorem iR_disjoint (c : Dev nD) (k k' : Fin 4) (h : k ≠ k') : Disjoint (iR c k).set (iR c k').set :=
  rX_disjoint _ _ fun e => h ((in_bij c).1 e)
/-- and make up the first operand. -/
theorem iR_cover (c : Dev nD) : (Finset.univ : Finset (Fin 4)).biUnion (fun k => (iR c k).set) = Finset.univ :=
  cover_of rX (fun k : Fin 4 => iC k c) (in_bij c).2 rX_mem
/-- The landing slots make up their buffer. -/
theorem rSlot_cover : (Finset.univ : Finset (Fin 12)).biUnion (fun s => (rSlot s).set) = Finset.univ :=
  cover_of rSlot id Function.surjective_id rSlot_mem

/-! ## What the run starts from -/

omit [FloatOps F] in
/-- A buffer whatever it holds. -/
theorem any_whole (c : Dev nD) (b : Ref sig .tc) :
    (iprop(∃ X, ownsTc (Val := Elt F) c (Memref.whole b) fullShare X) : sProp 𝕄)
      = iprop(∃ f : Buf (Elt F) ((c : Thread nD τ).loc b), ((c : Thread nD τ).loc b) ↦{fullShare} f) := by
  have h : ∀ f : Buf (Elt F) ((c : Thread nD τ).loc b), (ownsTc (Val := Elt F) c (Memref.whole b) fullShare f : sProp 𝕄) = ((c : Thread nD τ).loc b) ↦{fullShare} f :=
    fun f => owns_whole (c : Thread nD τ) b fullShare f
  have h₁ : (iprop(∃ X, ownsTc (Val := Elt F) c (Memref.whole b) fullShare X) : sProp 𝕄)
      ⊢ iprop(∃ f : Buf (Elt F) ((c : Thread nD τ).loc b), ((c : Thread nD τ).loc b) ↦{fullShare} f) := by
    iintro ⟨%X, H⟩; iexists X; rw [← h X]; iexact H
  have h₂ : (iprop(∃ f : Buf (Elt F) ((c : Thread nD τ).loc b), ((c : Thread nD τ).loc b) ↦{fullShare} f) : sProp 𝕄)
      ⊢ iprop(∃ X, ownsTc (Val := Elt F) c (Memref.whole b) fullShare X) := by
    iintro ⟨%X, H⟩; iexists X; rw [h X]; iexact H
  exact BI.equiv_iff.mp ⟨h₁, h₂⟩

/-- The accumulator, cut as the kernel writes it. -/
theorem accs_in (c : Dev nD) : (iprop(∃ X, ownsTc (Val := Elt F) c accW fullShare X) : sProp 𝕄) ⊢ Accs (F := F) c := by
  refine (cut_any c accW (cR c) (fun _ _ => rfl) (cR_disjoint c) (cR_cover c)).trans ?_
  rw [bigSep_univ_eq_bigSepL [((0, 0) : Fin 4 × Fin 2), (0, 1), (1, 0), (1, 1), (2, 0), (2, 1), (3, 0), (3, 1)] (by decide) (by decide)]
  have one : ∀ h : Fin 2, (Acc5E (F := F) c (dn h c) h : sProp 𝕄) ⊢ iprop(AccE (F := F) c (dn h c) 0 h ∗ AccE (F := F) c (dn h c) 1 h) := by
    intro h
    unfold Acc5E AccE
    iintro ⟨%V, H⟩
    ihave H := (acc5_split c (dn h c) h V) $$ H
    icases H with ⟨H0, H1⟩
    isplitl [H0]
    · iexists _; iexact H0
    · iexists _; iexact H1
  show iprop(Acc5E (F := F) c (up 0 c) 0 ∗ Acc5E (F := F) c (up 1 c) 1 ∗ Acc5E (F := F) c c 0 ∗ Acc5E (F := F) c c 1
    ∗ Acc5E (F := F) c (opp c) 0 ∗ Acc5E (F := F) c (opp c) 1 ∗ Acc5E (F := F) c (dn 0 c) 0 ∗ Acc5E (F := F) c (dn 1 c) 1) ⊢ _
  unfold Accs
  iintro ⟨U0, U1, C0, C1, O0, O1, D0, D1⟩
  ihave D0 := (one 0) $$ D0
  ihave D1 := (one 1) $$ D1
  icases D0 with ⟨D00, D01⟩
  icases D1 with ⟨D10, D11⟩
  iframe

/-- The landing slots of a direction. -/
def Slots (c : Dev nD) (h : Fin 2) : sProp 𝕄 :=
  iprop(Slot (F := F) c h 0 ∗ Slot (F := F) c h 1 ∗ Slot (F := F) c h 2 ∗ Slot (F := F) c h 3 ∗ Slot (F := F) c h 4 ∗ Slot (F := F) c h 5
    ∗ Slot (F := F) c h 6 ∗ Slot (F := F) c h 7 ∗ Slot (F := F) c h 8 ∗ Slot (F := F) c h 9 ∗ Slot (F := F) c h 10 ∗ Slot (F := F) c h 11)

/-- A landing slot, whatever it holds, with or without its leading axis. -/
theorem slot_any (c : Dev nD) (h : Fin 2) (s : Fin 12) : (Slot (F := F) c h s : sProp 𝕄) = iprop(∃ V, ownsTc (Val := Elt F) c (slotR h s) fullShare V) := by
  have h₁ : (Slot (F := F) c h s : sProp 𝕄) ⊢ iprop(∃ V, ownsTc (Val := Elt F) c (slotR h s) fullShare V) := by
    unfold Slot
    iintro ⟨%V, H⟩; iexists (unsq V); rw [← owns_slot]; iexact H
  have h₂ : (iprop(∃ V, ownsTc (Val := Elt F) c (slotR h s) fullShare V) : sProp 𝕄) ⊢ Slot (F := F) c h s := by
    unfold Slot
    iintro ⟨%V, H⟩
    iexists (fun i => V (Shape.reshapeEquiv squeezes_S1x256x1024_S256x1024.numel_eq i))
    rw [owns_slot, show unsq (fun i => V (Shape.reshapeEquiv squeezes_S1x256x1024_S256x1024.numel_eq i)) = V from
      funext fun i => by unfold unsq; exact congrArg V (Equiv.apply_symm_apply _ _)]
    iexact H
  exact BI.equiv_iff.mp ⟨h₁, h₂⟩

/-- The landing slots of a direction are the pieces of its buffer. -/
theorem slots_eq (c : Dev nD) (h : Fin 2) : (Slots (F := F) c h : sProp 𝕄)
    = bigSep Finset.univ fun s : Fin 12 => iprop(∃ V, ownsTc (Val := Elt F) c ((slab h).slice (rSlot s) (fun _ => rfl)) fullShare V) := by
  refine Eq.trans ?_ (bigSep_congr (s := Finset.univ) (fun s _ => slot_any c h s))
  rw [bigSep_univ_eq_bigSepL [(0 : Fin 12), 1, 2, 3, 4, 5, 6, 7, 8, 9, 10, 11] (by decide) (by decide)]
  rfl

/-- The landing slots of a direction, cut, -/
theorem slots_in (c : Dev nD) (h : Fin 2) : (iprop(∃ X, ownsTc (Val := Elt F) c (slab h) fullShare X) : sProp 𝕄) ⊢ Slots (F := F) c h := by
  rw [slots_eq]
  exact cut_any c (slab h) rSlot (fun _ _ => rfl) rSlot_disjoint rSlot_cover
/-- and joined. -/
theorem slots_out (c : Dev nD) (h : Fin 2) : (Slots (F := F) c h : sProp 𝕄) ⊢ iprop(∃ X, ownsTc (Val := Elt F) c (slab h) fullShare X) := by
  rw [slots_eq]
  exact join_any c (slab h) rSlot (fun _ _ => rfl) rSlot_disjoint rSlot_cover

/-- All landing slots, as they are given to the two neighbours. -/
theorem gives_in (c : Dev nD) : iprop(Slots (F := F) c 0 ∗ Slots (F := F) c 1) ⊢ (iprop(give (F := F) c 1 0 ∗ give (F := F) c 0 1) : sProp 𝕄) := by
  unfold Slots give
  iintro ⟨⟨A0, A1, A2, A3, A4, A5, A6, A7, A8, A9, A10, A11⟩, ⟨B0, B1, B2, B3, B4, B5, B6, B7, B8, B9, B10, B11⟩⟩
  iframe

/-- The result, cut as it is written. -/
theorem outs_in (c : Dev nD) : (iprop(∃ X, ownsTc (Val := Elt F) c outW fullShare X) : sProp 𝕄) ⊢ OutPieces (F := F) c := by
  refine (cut_any c outW (oR c) (fun _ _ => rfl) (oR_disjoint c) (oR_cover c)).trans ?_
  rw [bigSep_univ_eq_bigSepL [(0 : Fin 16), 1, 2, 3, 4, 5, 6, 7, 8, 9, 10, 11, 12, 13, 14, 15] (by decide) (by decide)]
  exact BI.Entails.refl _

/-- The first operand and its scratch, cut as they are copied. -/
theorem xs_in (c : Dev nD) : iprop(ownsTc c xaW fullShare (Xd m c) ∗ ∃ X, ownsTc (Val := Elt F) c xvW fullShare X)
    ⊢ iprop(XIn m c (iC 0 c) ∗ XIn m c (iC 1 c) ∗ XIn m c (iC 2 c) ∗ XIn m c (iC 3 c)) := by
  refine (BI.sep_mono (owns_rects (c : Thread nD τ) xaW fullShare (iR c) (fun _ _ => rfl) (iR_disjoint c) (iR_cover c) (Xd m c))
    (cut_any c xvW (iR c) (fun _ _ => rfl) (iR_disjoint c) (iR_cover c))).trans ?_
  rw [bigSep_univ_eq_bigSepL [(0 : Fin 4), 1, 2, 3] (by decide) (by decide), bigSep_univ_eq_bigSepL [(0 : Fin 4), 1, 2, 3] (by decide) (by decide)]
  show iprop((ownsTc c (xaP (iC 0 c)) fullShare (x5 m c (iC 0 c)) ∗ ownsTc c (xaP (iC 1 c)) fullShare (x5 m c (iC 1 c))
      ∗ ownsTc c (xaP (iC 2 c)) fullShare (x5 m c (iC 2 c)) ∗ ownsTc c (xaP (iC 3 c)) fullShare (x5 m c (iC 3 c)))
    ∗ ((∃ V, ownsTc (Val := Elt F) c (xvP (iC 0 c)) fullShare V) ∗ (∃ V, ownsTc (Val := Elt F) c (xvP (iC 1 c)) fullShare V)
      ∗ (∃ V, ownsTc (Val := Elt F) c (xvP (iC 2 c)) fullShare V) ∗ (∃ V, ownsTc (Val := Elt F) c (xvP (iC 3 c)) fullShare V))) ⊢ _
  unfold XIn
  iintro ⟨⟨A0, A1, A2, A3⟩, ⟨B0, B1, B2, B3⟩⟩
  iframe

/-! ## What the run ends with -/

/-- The first operand and its scratch, again. -/
theorem xs_out (c : Dev nD) : iprop(xPay m c (iC 0 c) ∗ xPay m c (iC 1 c) ∗ xPay m c (iC 2 c) ∗ xPay m c (iC 3 c))
    ⊢ iprop(ownsTc c xaW fullShare (Xd m c) ∗ ∃ X, ownsTc (Val := Elt F) c xvW fullShare X) := by
  have e : (ownsTc c xvW fullShare (Xd m c) : sProp 𝕄) ⊢ iprop(∃ X, ownsTc (Val := Elt F) c xvW fullShare X) := by
    iintro H; iexists _; iexact H
  refine BI.Entails.trans ?_ (BI.sep_mono (BI.Entails.refl _) e)
  refine BI.Entails.trans ?_ (BI.sep_mono (owns_of_rects (c : Thread nD τ) xaW fullShare (iR c) (fun _ _ => rfl) (iR_disjoint c) (iR_cover c) (Xd m c)) (owns_of_rects (c : Thread nD τ) xvW fullShare (iR c) (fun _ _ => rfl) (iR_disjoint c) (iR_cover c) (Xd m c)))
  rw [bigSep_univ_eq_bigSepL [(0 : Fin 4), 1, 2, 3] (by decide) (by decide), bigSep_univ_eq_bigSepL [(0 : Fin 4), 1, 2, 3] (by decide) (by decide)]
  show _ ⊢ iprop((ownsTc c (xaP (iC 0 c)) fullShare (x5 m c (iC 0 c)) ∗ ownsTc c (xaP (iC 1 c)) fullShare (x5 m c (iC 1 c))
      ∗ ownsTc c (xaP (iC 2 c)) fullShare (x5 m c (iC 2 c)) ∗ ownsTc c (xaP (iC 3 c)) fullShare (x5 m c (iC 3 c)))
    ∗ (ownsTc c (xvP (iC 0 c)) fullShare (x5 m c (iC 0 c)) ∗ ownsTc c (xvP (iC 1 c)) fullShare (x5 m c (iC 1 c))
      ∗ ownsTc c (xvP (iC 2 c)) fullShare (x5 m c (iC 2 c)) ∗ ownsTc c (xvP (iC 3 c)) fullShare (x5 m c (iC 3 c))))
  unfold xPay
  iintro ⟨⟨A0, B0⟩, ⟨A1, B1⟩, ⟨A2, B2⟩, ⟨A3, B3⟩⟩
  iframe

/-- The whole result: on every half chunk the value that was copied out. -/
theorem exists_result : ∃ G : S2048x2048.Idx → Elt F .f32, ∀ (q : Dev nD) (j h : Fin 2) i, G ((rHalf q j h).emb i) = VR m q j h i := by
  haveI : ∀ e, Nonempty (Elt F e) := inferInstance
  haveI : Nonempty (Elt F .f32) := this _
  obtain ⟨X, hX⟩ := glue (fun p : Dev nD × Fin 2 × Fin 2 => rHalf p.1 p.2.1 p.2.2)
    (fun p p' hp => rHalf_disjoint _ _ _ _ _ _ hp) (fun p => VR m p.1 p.2.1 p.2.2)
  exact ⟨X, fun q j h i => hX (q, j, h) i⟩
def result : S2048x2048.Idx → Elt F .f32 := (exists_result m).choose
/-- On a half chunk the result is what was copied out. -/
theorem result_at (q : Dev nD) (j h : Fin 2) (i : S256x1024.Idx) : result m ((rHalf q j h).emb i) = VR m q j h i :=
  (exists_result m).choose_spec q j h i

/-- What the `k`-th copy out wrote. -/
def OutDone (c : Dev nD) (k : Fin 16) : sProp 𝕄 := ownsTc c (outP (oC k c) (oJ k) (oH k)) fullShare (oV m k c)

/-- Together that is the result. -/
theorem outs_join (c : Dev nD) : iprop(OutDone m c 0 ∗ OutDone m c 1 ∗ OutDone m c 2 ∗ OutDone m c 3 ∗ OutDone m c 4 ∗ OutDone m c 5 ∗ OutDone m c 6
      ∗ OutDone m c 7 ∗ OutDone m c 8 ∗ OutDone m c 9 ∗ OutDone m c 10 ∗ OutDone m c 11 ∗ OutDone m c 12
      ∗ OutDone m c 13 ∗ OutDone m c 14 ∗ OutDone m c 15)
    ⊢ ownsTc c outW fullShare (result m) := by
  refine BI.Entails.trans ?_ (owns_of_rects (c : Thread nD τ) outW fullShare (oR c) (fun _ _ => rfl) (oR_disjoint c) (oR_cover c) (result m))
  have e : (bigSep Finset.univ fun k : Fin 16 => (ownsTc c (outW.slice (oR c k) (fun _ => rfl)) fullShare (fun i => result m ((oR c k).emb i)) : sProp 𝕄))
      = bigSep Finset.univ fun k : Fin 16 => OutDone m c k :=
    bigSep_congr fun k _ => by
      unfold OutDone
      rw [show (fun i => result m ((oR c k).emb i)) = oV m k c from funext fun i => result_at m _ _ _ i]
  refine BI.Entails.trans ?_ (Entails.of_eq e.symm)
  rw [bigSep_univ_eq_bigSepL [(0 : Fin 16), 1, 2, 3, 4, 5, 6, 7, 8, 9, 10, 11, 12, 13, 14, 15] (by decide) (by decide)]
  exact BI.Entails.refl _

/-- The copies out made it, and their sources are back. -/
theorem outs_out (c : Dev nD) : OutsBack m c ⊢ iprop(ownsTc c outW fullShare (result m)
    ∗ outSrc m c 0 ∗ outSrc m c 1 ∗ outSrc m c 2 ∗ outSrc m c 3 ∗ outSrc m c 4 ∗ outSrc m c 5 ∗ outSrc m c 6
      ∗ outSrc m c 7 ∗ outSrc m c 8 ∗ outSrc m c 9 ∗ outSrc m c 10 ∗ outSrc m c 11 ∗ outSrc m c 12 ∗ outSrc m c 13
      ∗ outSrc m c 14 ∗ outSrc m c 15) := by
  show iprop((OutDone m c 0 ∗ outSrc m c 0) ∗ (OutDone m c 1 ∗ outSrc m c 1) ∗ (OutDone m c 2 ∗ outSrc m c 2)
      ∗ (OutDone m c 3 ∗ outSrc m c 3) ∗ (OutDone m c 4 ∗ outSrc m c 4) ∗ (OutDone m c 5 ∗ outSrc m c 5)
      ∗ (OutDone m c 6 ∗ outSrc m c 6) ∗ (OutDone m c 7 ∗ outSrc m c 7) ∗ (OutDone m c 8 ∗ outSrc m c 8)
      ∗ (OutDone m c 9 ∗ outSrc m c 9) ∗ (OutDone m c 10 ∗ outSrc m c 10) ∗ (OutDone m c 11 ∗ outSrc m c 11)
      ∗ (OutDone m c 12 ∗ outSrc m c 12) ∗ (OutDone m c 13 ∗ outSrc m c 13) ∗ (OutDone m c 14 ∗ outSrc m c 14)
      ∗ (OutDone m c 15 ∗ outSrc m c 15))
    ⊢ _
  iintro ⟨⟨A0, B0⟩, ⟨A1, B1⟩, ⟨A2, B2⟩, ⟨A3, B3⟩, ⟨A4, B4⟩, ⟨A5, B5⟩, ⟨A6, B6⟩, ⟨A7, B7⟩, ⟨A8, B8⟩, ⟨A9, B9⟩, ⟨A10, B10⟩, ⟨A11, B11⟩, ⟨A12, B12⟩, ⟨A13, B13⟩, ⟨A14, B14⟩, ⟨A15, B15⟩⟩
  isplitl [A0 A1 A2 A3 A4 A5 A6 A7 A8 A9 A10 A11 A12 A13 A14 A15]
  · iapply (outs_join m c)
    iframe
  · iframe

/-- What is left of the finished half chunk makes up its piece of the accumulator, -/
theorem back_up (c : Dev nD) (j h : Fin 2) : iprop(sendPay m c h (sl 3 j) ∗ sendPay m c h (sl 4 j) ∗ outSrc m c (ko 0 j h)) ⊢ AccE (F := F) c (up h c) j h := by
  have e : iprop(sendPay m c h (sl 3 j) ∗ sendPay m c h (sl 4 j) ∗ outSrc m c (ko 0 j h))
      ⊢ iprop(ownsTc c (accP (up h c) j h) fullShare.left (VR m (up h c) j h)
        ∗ ownsTc c (accP (up h c) j h) fullShare.right.left (VR m (up h c) j h)
        ∗ ownsTc c (accP (up h c) j h) fullShare.right.right (VR m (up h c) j h)) := by
    fin_cases j <;> fin_cases h <;> exact .rfl
  refine e.trans (BI.Entails.trans (BI.sep_mono (BI.Entails.refl _) (owns_unhalve c _ _ _ _)) ((owns_unhalve c _ _ _ _).trans ?_))
  unfold AccE; iintro H; iexists _; iexact H
/-- so do the sources of the other transfers: the sum of two, -/
theorem back_mid (c : Dev nD) (j h : Fin 2) : sendPay m c h (sl 1 j) ⊢ AccE (F := F) c c j h := by
  have e : sendPay m c h (sl 1 j) ⊢ ownsTc c (accP c j h) fullShare (VB m c j h) := by fin_cases j <;> fin_cases h <;> exact .rfl
  refine e.trans ?_
  unfold AccE; iintro H; iexists _; iexact H
/-- the one for the chunk across the ring -/
theorem back_opp (c : Dev nD) (j h : Fin 2) : sendPay m c h (sl 2 j) ⊢ AccE (F := F) c (opp c) j h := by
  have e : sendPay m c h (sl 2 j) ⊢ ownsTc c (accP (opp c) j h) fullShare (VD m (opp c) j h) := by fin_cases j <;> fin_cases h <;> exact .rfl
  refine e.trans ?_
  unfold AccE; iintro H; iexists _; iexact H
/-- and the first; -/
theorem back_dn (c : Dev nD) (j h : Fin 2) : sendPay m c h (sl 0 j) ⊢ AccE (F := F) c (dn h c) j h := by
  have e : sendPay m c h (sl 0 j) ⊢ ownsTc c (accP (dn h c) j h) fullShare (V0 m (dn h c) j h) := by fin_cases j <;> fin_cases h <;> exact .rfl
  refine e.trans ?_
  unfold AccE; iintro H; iexists _; iexact H
/-- and the landed blocks give back their slots. -/
theorem back_recv (c : Dev nD) (h : Fin 2) (s : Fin 12) : recvPay m c h s ⊢ Slot (F := F) c h s := by
  unfold recvPay Slot; iintro H; iexists _; iexact H
/-- A slot that was passed on and copied out is free once both are done; -/
theorem back_3 (c : Dev nD) (j h : Fin 2) : iprop(sendPay m c h (sl 5 j) ∗ outSrc m c (ko 1 j h)) ⊢ Slot (F := F) c h (sl 3 j) := by
  have e : iprop(sendPay m c h (sl 5 j) ∗ outSrc m c (ko 1 j h))
      ⊢ iprop(ownsTc c (slotM h (sl 3 j)) fullShare.left (VR m c j h) ∗ ownsTc c (slotM h (sl 3 j)) fullShare.right (VR m c j h)) := by
    fin_cases j <;> fin_cases h <;> exact .rfl
  refine e.trans ((owns_unhalve c _ _ _ _).trans ?_)
  unfold Slot; iintro H; iexists _; iexact H
/-- a slot that was copied out in the fourth step, -/
theorem back_4 (c : Dev nD) (j h : Fin 2) : outSrc m c (ko 2 j h) ⊢ Slot (F := F) c h (sl 4 j) := by
  have e : outSrc m c (ko 2 j h) ⊢ recvPay m c h (sl 4 j) := by fin_cases j <;> fin_cases h <;> exact .rfl
  exact e.trans (back_recv m c h _)
/-- and one in the last. -/
theorem back_5 (c : Dev nD) (j h : Fin 2) : outSrc m c (ko 3 j h) ⊢ Slot (F := F) c h (sl 5 j) := by
  have e : outSrc m c (ko 3 j h) ⊢ recvPay m c h (sl 5 j) := by fin_cases j <;> fin_cases h <;> exact .rfl
  exact e.trans (back_recv m c h _)

/-- One direction's pieces, all back: its landing slots, and the half chunks of the accumulator in its columns. -/
theorem dir_back (c : Dev nD) (h : Fin 2) :
    iprop((sendPay m c h (sl 0 0) ∗ sendPay m c h (sl 0 1) ∗ sendPay m c h (sl 1 0) ∗ sendPay m c h (sl 1 1) ∗ sendPay m c h (sl 2 0) ∗ sendPay m c h (sl 2 1)
        ∗ sendPay m c h (sl 3 0) ∗ sendPay m c h (sl 3 1) ∗ sendPay m c h (sl 4 0) ∗ sendPay m c h (sl 4 1) ∗ sendPay m c h (sl 5 0) ∗ sendPay m c h (sl 5 1))
      ∗ (recvPay m c h 0 ∗ recvPay m c h 1 ∗ recvPay m c h 2 ∗ recvPay m c h 3 ∗ recvPay m c h 4 ∗ recvPay m c h 5)
      ∗ (outSrc m c (ko 0 0 h) ∗ outSrc m c (ko 0 1 h) ∗ outSrc m c (ko 1 0 h) ∗ outSrc m c (ko 1 1 h)
        ∗ outSrc m c (ko 2 0 h) ∗ outSrc m c (ko 2 1 h) ∗ outSrc m c (ko 3 0 h) ∗ outSrc m c (ko 3 1 h)))
    ⊢ iprop(Slots (F := F) c h
      ∗ (AccE (F := F) c (up h c) 0 h ∗ AccE (F := F) c (up h c) 1 h ∗ AccE (F := F) c c 0 h ∗ AccE (F := F) c c 1 h
        ∗ AccE (F := F) c (opp c) 0 h ∗ AccE (F := F) c (opp c) 1 h ∗ AccE (F := F) c (dn h c) 0 h ∗ AccE (F := F) c (dn h c) 1 h)) := by
  iintro ⟨⟨S00, S01, S10, S11, S20, S21, S30, S31, S40, S41, S50, S51⟩, ⟨R0, R1, R2, R3, R4, R5⟩, ⟨O00, O01, O10, O11, O20, O21, O30, O31⟩⟩
  ihave U0 := (back_up m c 0 h) $$ [S30 S40 O00]
  · iframe
  ihave U1 := (back_up m c 1 h) $$ [S31 S41 O01]
  · iframe
  ihave T0 := (back_3 m c 0 h) $$ [S50 O10]
  · iframe
  ihave T1 := (back_3 m c 1 h) $$ [S51 O11]
  · iframe
  ihave C0 := (back_mid m c 0 h) $$ S10
  ihave C1 := (back_mid m c 1 h) $$ S11
  ihave P0 := (back_opp m c 0 h) $$ S20
  ihave P1 := (back_opp m c 1 h) $$ S21
  ihave D0 := (back_dn m c 0 h) $$ S00
  ihave D1 := (back_dn m c 1 h) $$ S01
  ihave F0 := (back_4 m c 0 h) $$ O20
  ihave F1 := (back_4 m c 1 h) $$ O21
  ihave V0 := (back_5 m c 0 h) $$ O30
  ihave V1 := (back_5 m c 1 h) $$ O31
  ihave R0 := (back_recv m c h 0) $$ R0
  ihave R1 := (back_recv m c h 1) $$ R1
  ihave R2 := (back_recv m c h 2) $$ R2
  ihave R3 := (back_recv m c h 3) $$ R3
  ihave R4 := (back_recv m c h 4) $$ R4
  ihave R5 := (back_recv m c h 5) $$ R5
  isplitl [R0 R1 R2 R3 R4 R5 T0 T1 F0 F1 V0 V1]
  · iapply (show iprop(Slot (F := F) c h 0 ∗ Slot (F := F) c h 1 ∗ Slot (F := F) c h 2 ∗ Slot (F := F) c h 3 ∗ Slot (F := F) c h 4 ∗ Slot (F := F) c h 5
      ∗ Slot (F := F) c h (sl 3 0) ∗ Slot (F := F) c h (sl 3 1) ∗ Slot (F := F) c h (sl 4 0) ∗ Slot (F := F) c h (sl 4 1) ∗ Slot (F := F) c h (sl 5 0) ∗ Slot (F := F) c h (sl 5 1))
      ⊢ Slots (F := F) c h from BI.Entails.refl _)
    iframe
  · iframe

/-- The whole accumulator from its half chunks. -/
theorem accs_out (c : Dev nD) :
    iprop((AccE (F := F) c (up 0 c) 0 0 ∗ AccE (F := F) c (up 0 c) 1 0 ∗ AccE (F := F) c c 0 0 ∗ AccE (F := F) c c 1 0
        ∗ AccE (F := F) c (opp c) 0 0 ∗ AccE (F := F) c (opp c) 1 0 ∗ AccE (F := F) c (dn 0 c) 0 0 ∗ AccE (F := F) c (dn 0 c) 1 0)
      ∗ (AccE (F := F) c (up 1 c) 0 1 ∗ AccE (F := F) c (up 1 c) 1 1 ∗ AccE (F := F) c c 0 1 ∗ AccE (F := F) c c 1 1
        ∗ AccE (F := F) c (opp c) 0 1 ∗ AccE (F := F) c (opp c) 1 1 ∗ AccE (F := F) c (dn 1 c) 0 1 ∗ AccE (F := F) c (dn 1 c) 1 1))
    ⊢ (iprop(∃ X, ownsTc (Val := Elt F) c accW fullShare X) : sProp 𝕄) := by
  refine BI.Entails.trans ?_ (join_any c accW (oR c) (fun _ _ => rfl) (oR_disjoint c) (oR_cover c))
  rw [bigSep_univ_eq_bigSepL [(0 : Fin 16), 1, 2, 3, 4, 5, 6, 7, 8, 9, 10, 11, 12, 13, 14, 15] (by decide) (by decide)]
  show _ ⊢ iprop(AccE (F := F) c (up 0 c) 0 0 ∗ AccE (F := F) c (up 1 c) 0 1 ∗ AccE (F := F) c (up 0 c) 1 0 ∗ AccE (F := F) c (up 1 c) 1 1
    ∗ AccE (F := F) c c 0 0 ∗ AccE (F := F) c c 0 1 ∗ AccE (F := F) c c 1 0 ∗ AccE (F := F) c c 1 1
    ∗ AccE (F := F) c (opp c) 0 0 ∗ AccE (F := F) c (opp c) 0 1 ∗ AccE (F := F) c (opp c) 1 0 ∗ AccE (F := F) c (opp c) 1 1
    ∗ AccE (F := F) c (dn 0 c) 0 0 ∗ AccE (F := F) c (dn 1 c) 0 1 ∗ AccE (F := F) c (dn 0 c) 1 0 ∗ AccE (F := F) c (dn 1 c) 1 1)
  iintro ⟨⟨A0, A1, A2, A3, A4, A5, A6, A7⟩, ⟨B0, B1, B2, B3, B4, B5, B6, B7⟩⟩
  iframe

/-- Everything the run leaves: the result, and the scratch buffers at what they hold. -/
theorem all_back (c : Dev nD) : iprop(SentA m c ∗ SentB m c ∗ GotA m c ∗ GotB m c ∗ OutsBack m c)
    ⊢ iprop(ownsTc c outW fullShare (result m) ∗ (∃ X, ownsTc (Val := Elt F) c accW fullShare X)
      ∗ (∃ X, ownsTc (Val := Elt F) c (slab 0) fullShare X) ∗ (∃ X, ownsTc (Val := Elt F) c (slab 1) fullShare X)) := by
  iintro ⟨HA, HB, GA, GB, HO⟩
  ihave HO := (outs_out m c) $$ HO
  icases HO with ⟨Hout, O0, O1, O2, O3, O4, O5, O6, O7, O8, O9, O10, O11, O12, O13, O14, O15⟩
  ihave D0 := (show iprop(SentA m c ∗ GotA m c ∗ (outSrc m c 0 ∗ outSrc m c 2 ∗ outSrc m c 4 ∗ outSrc m c 6 ∗ outSrc m c 8 ∗ outSrc m c 10 ∗ outSrc m c 12 ∗ outSrc m c 14))
    ⊢ _ from dir_back m c 0) $$ [HA GA O0 O2 O4 O6 O8 O10 O12 O14]
  · iframe
  ihave D1 := (show iprop(SentB m c ∗ GotB m c ∗ (outSrc m c 1 ∗ outSrc m c 3 ∗ outSrc m c 5 ∗ outSrc m c 7 ∗ outSrc m c 9 ∗ outSrc m c 11 ∗ outSrc m c 13 ∗ outSrc m c 15))
    ⊢ _ from dir_back m c 1) $$ [HB GB O1 O3 O5 O7 O9 O11 O13 O15]
  · iframe
  icases D0 with ⟨S0, A0⟩
  icases D1 with ⟨S1, A1⟩
  isplitl [Hout]; · iexact Hout
  isplitl [A0 A1]
  · iapply (accs_out c)
    isplitl [A0] <;> iassumption
  isplitl [S0]
  · iapply (slots_out c 0); iexact S0
  · iapply (slots_out c 1); iexact S1

end Cert.RingMM

end
-- ==== Proof.Tokens.lean ====
/-
The tokens and credits every device starts with, and its semaphores at the end.
-/
module

public import proofs.«01_k».proof.Proof.Pieces

@[expose] public section

set_option backward.proofsInPublic true

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 69) → ℕ)

/-! ## Every semaphore by kind -/

/-- Semaphores by kind: of sends, of landings, of copies out, of copies in. -/
abbrev Kind : Type := (Fin 2 × Fin 12) ⊕ ((Fin 2 × Fin 12) ⊕ (Fin 16 ⊕ Fin 5))
def ofKind : Kind → Fin 69
  | .inl p => sS p.1 p.2
  | .inr (.inl p) => rS p.1 p.2
  | .inr (.inr (.inl k)) => oS k
  | .inr (.inr (.inr k)) => iS k

/-- Every semaphore but the barrier is of one kind, at one place. -/
theorem ofKind_bijective : Function.Bijective ofKind := by
  refine (Fintype.bijective_iff_injective_and_card _).mpr ⟨?_, by decide⟩
  rintro (⟨h, s⟩ | ⟨h, s⟩ | k | k) (⟨h', s'⟩ | ⟨h', s'⟩ | k' | k') e <;>
    · have e' := congrArg Fin.val e
      dsimp only [ofKind, sS, rS, oS, iS] at e'
      first
        | omega
        | (obtain rfl : h = h' := Fin.ext (by omega)
           obtain rfl : s = s' := Fin.ext (by omega)
           rfl)
        | (obtain rfl : k = k' := Fin.ext (by omega)
           rfl)

omit [FloatOps F] in
/-- Twelve pieces, one by one; -/
theorem sep12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
omit [FloatOps F] in
/-- sixteen; -/
theorem sep16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
/-- five; -/
theorem sep5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
/-- two; -/
theorem sep2 (Φ : Fin 2 → sProp 𝕄) : bigSep Finset.univ Φ = iprop(Φ 0 ∗ Φ 1) :=
  bigSep_univ_eq_bigSepL [0, 1] (by decide) (by decide) Φ
omit [FloatOps F] in
/-- the two signals. -/
theorem sepB (Φ : Bool → sProp 𝕄) : bigSep Finset.univ Φ = iprop(Φ false ∗ Φ true) :=
  bigSep_univ_eq_bigSepL [false, true] (by decide) (by decide) Φ

omit [FloatOps F] in
/-- What is held for every semaphore but the barrier, by kind. -/
theorem sep69 (Φ : Fin 69 → sProp 𝕄) : bigSep Finset.univ Φ
    = iprop(((bigSep Finset.univ fun s => Φ (sS 0 s)) ∗ (bigSep Finset.univ fun s => Φ (sS 1 s)))
      ∗ ((bigSep Finset.univ fun s => Φ (rS 0 s)) ∗ (bigSep Finset.univ fun s => Φ (rS 1 s)))
      ∗ (bigSep Finset.univ fun k => Φ (oS k)) ∗ (bigSep Finset.univ fun k => Φ (iS k))) := by
  rw [bigSep_univ_equiv (Equiv.ofBijective ofKind ofKind_bijective) Φ, bigSep_univ_sum, bigSep_univ_sum, bigSep_univ_sum,
    bigSep_univ_prod, bigSep_univ_prod, sep2, sep2]
  rfl

omit [FloatOps F] in
/-- What is held for every semaphore: for the barrier, and for the rest. -/
theorem sepOpt (Φ : Option (Fin 69) → sProp 𝕄) : bigSep Finset.univ Φ
    = iprop((bigSep Finset.univ fun k => Φ (some k)) ∗ Φ none) := by
  rw [bigSep_univ_equiv (Equiv.optionEquivSumPUnit.{0} (Fin 69)).symm Φ, bigSep_univ_sum,
    bigSep_univ_eq_bigSepL [PUnit.unit] (by decide) (by decide)]
  rfl

/-! ## Cells and tokens -/

/-- Different indices are different semaphores, -/
theorem csem_injective : Function.Injective csem := by
  rintro (_ | k) (_ | k') h
  · rfl
  · exact absurd h (by simp [csem])
  · exact absurd h (by simp [csem])
  · exact congrArg some (SemLoc.dma.inj h)

/-- and with the device different cells; -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- equal cells have equal device and index. -/
theorem kcell_iff {a b : Dev nD} {k k' : Option (Fin 69)} : Iff (kcell (a, k) = kcell (b, k')) (a = b ∧ k = k') :=
  ⟨fun h => Prod.mk.inj (kcell_injective h), fun h => by rw [h.1, h.2]⟩

def ringCells : Finset (GSem nD τ sig) := Finset.univ.map ⟨kcell, kcell_injective⟩

/-- A token of device `c`: of a semaphore but the barrier, or one of the barrier's two. -/
abbrev tokOf (ck : Dev nD × (Fin 69 ⊕ Bool)) : GSem nD τ sig × ℕ × Bool := match ck.2 with
  | .inl k => (kcell (ck.1, some k), 0, false)
  | .inr b => (kcell (ck.1, none), 0, b)

/-- Different tokens are of different raises. -/
theorem tokOf_injective : Function.Injective tokOf := by
  rintro ⟨c, k | b⟩ ⟨c', k' | b'⟩ h
  · have h1 := kcell_iff.mp (Prod.mk.inj h).1
    exact congrArg₂ (fun a b => (a, Sum.inl b)) h1.1 (Option.some.inj h1.2)
  · exact absurd (kcell_iff.mp (Prod.mk.inj h).1).2 (by simp)
  · exact absurd (kcell_iff.mp (Prod.mk.inj h).1).2 (by simp)
  · have h1 := kcell_iff.mp (Prod.mk.inj h).1
    have h2 : b = b' := (Prod.mk.inj (Prod.mk.inj h).2).2
    exact congrArg₂ (fun a b => (a, Sum.inr b)) h1.1 h2

def ringToks : Finset (GSem nD τ sig × ℕ × Bool) := Finset.univ.map ⟨tokOf, tokOf_injective⟩

/-- The ghost state at the start: the library's and the ring's. -/
def u₀ : UU :=
  (initOf (Pipeline.cells cfgs cellOf_inj) (Pipeline.launchToks cfgs cellOf_inj), initOf ringCells ringToks)

/-- The tokens of device `c`'s own semaphores. -/
def toks (c : Dev nD) : sProp 𝕄 :=
  iprop((bigSep Finset.univ fun k : Fin 69 => dutyTok ER (kcell (c, some k)) 0 false)
    ∗ (bigSep Finset.univ fun b : Bool => dutyTok ER (kcell (c, none)) 0 b))

/-- What a device starts from. -/
def G (c : Dev nD) : sProp 𝕄 :=
  iprop((bigSep Finset.univ fun k : Option (Fin 69) => roundState ER (ringRd m) (kcell (c, k)) 0)
    ∗ (bigSep Finset.univ fun k : Option (Fin 69) => atPos ER (kcell (c, k)) 0 ∅ 0)
    ∗ (bigSep Finset.univ fun k : Option (Fin 69) => reached ER (kcell (c, k)) 0) ∗ toks c)

/-- The ghost state at the start gives every device its part. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option (Fin 69) => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

omit [FloatOps F] in
/-- The kernel's own semaphores and the barrier, all at zero, are every cell at zero. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun k : Option (Fin 69) => semVal (kcell (c, k)) 0 : sProp 𝕄) := by
  have h : (unscopedSems0 c : sProp 𝕄) = semVal (kcell (c, none)) 0 := by
    unfold unscopedSems0; rw [bigSep_eq_bigSepL_of_eq [SemLoc.reg barS] (by decide) (by decide)]; rfl
  rw [sepOpt, h]
  rfl

/-- With its semaphores at zero, a device sets up the invariants of its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k : Option (Fin 69) => atPos ER (kcell (c, k)) 0 ∅ 0)
          ∗ (bigSep Finset.univ fun k : Option (Fin 69) => reached ER (kcell (c, k)) 0) ∗ toks c) := by
  unfold G
  iintro ⟨Hos, Hus, Hst, Hat, Hr, Htok⟩
  ihave Hv := (Entails.of_eq (sems0_eq (F := F) c)) $$ [Hos Hus]
  · isplitl [Hos] <;> iassumption
  imod (show iprop((bigSep Finset.univ fun k : Option (Fin 69) => semVal (kcell (c, k)) 0) ∗ bigSep Finset.univ fun k : Option (Fin 69) => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  iframe

/-! ## The tokens dealt to the devices that pay -/

/-- The device that the raise of semaphore `k` by device `c` reaches. -/
def dst (k : Fin 69) (c : Dev nD) : Dev nD :=
  if h : k.val < 48 ∧ 12 ≤ k.val % 24 then tgt ⟨k.val / 24, by omega⟩ ⟨k.val % 24 - 12, by omega⟩ c else c

/-- For each semaphore, every device is raised by one device. -/
theorem dst_bijective (k : Fin 69) : Function.Bijective (dst k) := by
  refine (Fintype.bijective_iff_injective_and_card _).mpr ⟨fun a b h => ?_, rfl⟩
  unfold dst at h
  split at h
  · rw [← org_tgt _ _ a, h, org_tgt]
  · exact h

/-- A landing's semaphore is raised at the target of the transfer, -/
theorem dst_recv (h : Fin 2) (s : Fin 12) (c : Dev nD) : dst (rS h s) c = tgt h s c := by
  have h1 : (rS h s).val < 48 ∧ 12 ≤ (rS h s).val % 24 := by dsimp only [rS]; omega
  refine (dif_pos h1).trans ?_
  congr 1 <;> exact Fin.ext (by dsimp only [rS]; omega)
/-- a send's at the device itself, -/
theorem dst_send (h : Fin 2) (s : Fin 12) (c : Dev nD) : dst (sS h s) c = c :=
  dif_neg (by dsimp only [sS]; omega)
/-- and so is a copy out's -/
theorem dst_out (k : Fin 16) (c : Dev nD) : dst (oS k) c = c := dif_neg (by dsimp only [oS]; omega)
/-- and a copy in's. -/
theorem dst_in (k : Fin 5) (c : Dev nD) : dst (iS k) c = c := dif_neg (by dsimp only [iS]; omega)

/-- The neighbours, one way around. -/
def ring : Dev nD ≃ Dev nD where
  toFun := sh 1
  invFun := sh 3
  left_inv := sh31
  right_inv := sh13

/-- The tokens of the raises device `c` makes. -/
def payToks (c : Dev nD) : sProp 𝕄 :=
  iprop((bigSep Finset.univ fun k : Fin 69 => dutyTok ER (kcell (dst k c, some k)) 0 false)
    ∗ dutyTok ER (kcell (sh 3 c, none)) 0 true ∗ dutyTok ER (kcell (sh 1 c, none)) 0 false)

/-- What stays with device `c`. -/
def linear (c : Dev nD) : sProp 𝕄 :=
  iprop((bigSep Finset.univ fun k : Option (Fin 69) => atPos ER (kcell (c, k)) 0 ∅ 0) ∗ payToks c)

/-- The shared records and a device's own part. -/
def G' (c : Dev nD) : sProp 𝕄 :=
  iprop(∃ K : Dev nD × Option (Fin 69) → ℕ, ((bigSep Finset.univ fun ck : Dev nD × Option (Fin 69) => cellInv ER (ringRd m) (K ck) (kcell ck))
    ∗ (bigSep Finset.univ fun ck : Dev nD × Option (Fin 69) => reached ER (kcell ck) 0)) ∗ linear c)

omit [FloatOps F] in
/-- The tokens of all devices' semaphores are those of all devices' raises. -/
theorem toks_around : (bigSep Finset.univ fun c : Dev nD => (toks c : sProp 𝕄)) ⊢ bigSep Finset.univ fun c : Dev nD => payToks c := by
  have h1 : (bigSep Finset.univ fun c : Dev nD => bigSep Finset.univ fun k : Fin 69 => (dutyTok ER (kcell (c, some k)) 0 false : sProp 𝕄))
      = bigSep Finset.univ fun c : Dev nD => bigSep Finset.univ fun k : Fin 69 => (dutyTok ER (kcell (dst k c, some k)) 0 false : sProp 𝕄) := by
    rw [bigSep_univ_comm]
    refine Eq.trans ?_ (bigSep_univ_comm _).symm
    exact bigSep_congr fun k _ => bigSep_univ_equiv (Equiv.ofBijective (dst k) (dst_bijective k)) _
  unfold toks payToks
  rw [bigSep_congr (s := Finset.univ) (fun (c : Dev nD) _ => congrArg (fun x : sProp 𝕄 => iprop(_ ∗ x)) (sepB fun b => dutyTok ER (kcell (c, none)) 0 b))]
  rw [bigSep_sep', bigSep_sep', bigSep_sep', bigSep_sep', h1,
    bigSep_univ_equiv ring (fun c : Dev nD => (dutyTok ER (kcell (c, none)) 0 false : sProp 𝕄)),
    bigSep_univ_equiv ring.symm (fun c : Dev nD => (dutyTok ER (kcell (c, none)) 0 true : sProp 𝕄))]
  iintro ⟨H1, H2, H3⟩
  isplitl [H1]; · iexact H1
  isplitl [H3]; · iexact H3
  iexact H2

omit [FloatOps F] in
/-- What is shared may be used at every piece. -/
theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' parts, with the invariants known to all. -/
theorem regroup :
    (bigSep Finset.univ fun c : Dev nD => iprop((bigSep Finset.univ fun k => iprop(∃ κ : ℕ, cellInv ER (ringRd m) κ (kcell (c, k))))
          ∗ (bigSep Finset.univ fun k : Option (Fin 69) => atPos ER (kcell (c, k)) 0 ∅ 0)
          ∗ (bigSep Finset.univ fun k : Option (Fin 69) => reached ER (kcell (c, k)) 0) ∗ toks c) : sProp 𝕄)
      ⊢ bigSep Finset.univ (G' m) := by
  rw [bigSep_sep', bigSep_sep', bigSep_sep', ← bigSep_univ_prod (fun ck : Dev nD × Option (Fin 69) => iprop(∃ κ : ℕ, cellInv ER (ringRd m) κ (kcell ck))),
    ← bigSep_univ_prod (fun ck : Dev nD × Option (Fin 69) => (reached ER (kcell ck) 0 : sProp 𝕄))]
  iintro ⟨HI, Hat, #HR, Htok⟩
  ihave HK := (BI.bigSep_exists_pi Finset.univ (fun (ck : Dev nD × Option (Fin 69)) (κ : ℕ) => (cellInv ER (ringRd m) κ (kcell ck) : sProp 𝕄))) $$ HI
  icases HK with ⟨%K, #HI⟩
  ihave Htk := (toks_around (F := F)) $$ Htok
  iapply (with_shared (R := iprop((bigSep Finset.univ fun ck : Dev nD × Option (Fin 69) => cellInv ER (ringRd m) (K ck) (kcell ck))
    ∗ (bigSep Finset.univ fun ck : Dev nD × Option (Fin 69) => reached ER (kcell ck) 0))) (Φ := fun c => linear c) fun c _ =>
      show _ ⊢ G' m c from by unfold G'; iintro H; iexists K; iexact H)
  isplitr
  · isplitl; · iexact HI
    iexact HR
  · unfold linear
    rw [bigSep_sep']
    iframe

/-- All devices' cells opened at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What device `d` owes a semaphore of device `c`, by counting. -/
theorem owed_at (d c : Dev nD) (k : Option (Fin 69)) : ∀ P : List Pay,
    owed d P (kcell (c, k)) () = P.countP (fun p => decide (sh p.1.val d = c ∧ p.2 = k)) * amt k
  | [] => by rw [List.countP_nil, Nat.zero_mul]; rfl
  | p :: P => by
    rw [owed_cons, Pi.add_apply, Finsupp.add_apply, owed_at d c k P, tallyAt_apply, List.countP_cons, Nat.add_mul]
    congr 1
    by_cases h : sh p.1.val d = c ∧ p.2 = k
    · obtain ⟨h1, h2⟩ := h
      rw [if_pos ⟨by rw [h1, h2], rfl⟩, if_pos (decide_eq_true ⟨h1, h2⟩), Nat.one_mul, h2]
    · rw [if_neg (fun h' => h ⟨(kcell_iff.mp h'.1).1.symm, (kcell_iff.mp h'.1).2.symm⟩), if_neg (by simpa using h), Nat.zero_mul]

/-- Every landing is owed once, -/
theorem count_recv : ∀ (h : Fin 2) (s : Fin 12) (c : Dev nD),
    (∑ d : Dev nD, pays.countP (fun p => decide (sh p.1.val d = c ∧ p.2 = some (rS h s)))) = 1 := by decide +kernel
/-- and every barrier two signals. -/
theorem count_bar : ∀ c : Dev nD,
    (∑ d : Dev nD, pays.countP (fun p => decide (sh p.1.val d = c ∧ p.2 = none))) = 2 := by decide +kernel

/-- The credit at a cell, from the number of times that it is owed. -/
theorem launch_at (c : Dev nD) (k : Option (Fin 69)) (n : ℕ)
    (hn : (∑ d : Dev nD, pays.countP (fun p => decide (sh p.1.val d = c ∧ p.2 = k))) = n) :
    tallyOn (kcell (c, k)) (launchCredit (Pipeline.owing fun d => owed d pays) 0 (kcell (c, k)))
      = (tallyAt (kcell (c, k)) () (n * amt k) : CellTallies nD τ sig Unit) := by
  unfold tallyAt; refine congrArg _ (Finsupp.ext fun u => ?_); cases u
  rw [Pipeline.launchCredit_owing, Finsupp.single_eq_same, Finset.sum_congr rfl fun d _ => owed_at d c k pays, ← Finset.sum_mul, hn]

/-- The landings' indices among all semaphores. -/
def recvs : Finset (SemLoc sig) := Finset.univ.map ⟨fun p : Fin 2 × Fin 12 => (SemLoc.dma (rS p.1 p.2) : SemLoc sig), by
  rintro ⟨h, s⟩ ⟨h', s'⟩ e
  have e' := congrArg Fin.val (SemLoc.dma.inj e)
  dsimp only [rS] at e'
  rw [show h = h' from Fin.ext (by omega), show s = s' from Fin.ext (by omega)]⟩

omit [FloatOps F] in
/-- The credits a device starts with: the barrier's two, and one transfer's for every landing. -/
theorem creds (c : Dev nD) :
    (Pipeline.launchCred (fun d => owed d pays) c : sProp 𝕄)
      ⊢ iprop(cred (tallyAt (kcell (c, none)) () 2)
        ∗ bigSep Finset.univ fun p : Fin 2 × Fin 12 => cred (tallyAt (kcell (c, some (rS p.1 p.2))) () (amt (some (rS p.1 p.2))))) := by
  unfold Pipeline.launchCred
  have hb := launch_at c none 2 (count_bar c)
  rw [bigSep_univ_at _ (SemLoc.reg barS), hb]
  refine sep_mono_right ?_
  have hs : recvs ⊆ Finset.univ.erase (SemLoc.reg barS) := by
    intro x hx
    obtain ⟨p, -, rfl⟩ := Finset.mem_map.mp hx
    exact Finset.mem_erase.mpr ⟨by simp, Finset.mem_univ _⟩
  have hr : bigSep recvs (fun sm => (cred (tallyOn ((c : Thread nD τ), sm) (launchCredit (Pipeline.owing fun d => owed d pays) 0 ((c : Thread nD τ), sm))) : sProp 𝕄))
      = bigSep Finset.univ fun p : Fin 2 × Fin 12 => cred (tallyAt (kcell (c, some (rS p.1 p.2))) () (amt (some (rS p.1 p.2)))) := by
    unfold recvs; rw [bigSep_map]
    refine bigSep_congr fun p _ => congrArg cred ?_
    have := launch_at c (some (rS p.1 p.2)) 1 (count_recv p.1 p.2 c)
    rw [Nat.one_mul] at this
    exact this
  rw [← hr, ← Finset.union_sdiff_of_subset hs, bigSep_union Finset.disjoint_sdiff]
  exact sep_elim_left

/-! ## A device's part, as the body takes it -/

omit [FloatOps F] in
/-- Two things held at every piece, held together. -/
theorem merge {I : Type} [DecidableEq I] {S : Finset I} {A B C : I → sProp 𝕄} (h : ∀ i, iprop(A i ∗ B i) ⊢ C i) :
    iprop(bigSep S A ∗ bigSep S B) ⊢ bigSep S C := by
  rw [← bigSep_sep']; exact bigSep_mono fun i _ => h i

/-- The rights to the copies in. -/
def InToks (c : Dev nD) : sProp 𝕄 :=
  iprop(LocTok (F := F) c (iS 0) ∗ LocTok (F := F) c (iS (Fin.succ 0)) ∗ LocTok (F := F) c (iS (Fin.succ 1)) ∗ LocTok (F := F) c (iS (Fin.succ 2))
    ∗ LocTok (F := F) c (iS (Fin.succ 3)))

omit [FloatOps F] in
/-- The rights to the transfers of a direction; -/
theorem send_toks (c : Dev nD) (h : Fin 2) :
    iprop((bigSep Finset.univ fun s => dutyTok ER (kcell (dst (sS h s) c, some (sS h s))) 0 false)
      ∗ (bigSep Finset.univ fun s => atPos ER (kcell (c, some (sS h s))) 0 ∅ 0)
      ∗ bigSep Finset.univ fun s => dutyTok ER (kcell (dst (rS h s) c, some (rS h s))) 0 false)
      ⊢ bigSep Finset.univ fun s : Fin 12 => (SendTok (F := F) c h s : sProp 𝕄) := by
  rw [← bigSep_sep', ← bigSep_sep']
  refine bigSep_mono fun s _ => ?_
  rw [dst_send, dst_recv]
  unfold SendTok LocTok
  exact Idealize.SL.BI.sep_assoc'

omit [FloatOps F] in
/-- those to the copies inside a device. -/
theorem loc_toks {n : ℕ} (c : Dev nD) (f : Fin n → Fin 69) (hf : ∀ k, dst (f k) c = c) :
    iprop((bigSep Finset.univ fun k => dutyTok ER (kcell (dst (f k) c, some (f k))) 0 false)
      ∗ (bigSep Finset.univ fun k => atPos ER (kcell (c, some (f k))) 0 ∅ 0))
      ⊢ bigSep Finset.univ fun k : Fin n => (LocTok (F := F) c (f k) : sProp 𝕄) := by
  refine merge fun k => ?_
  rw [hf]
  unfold LocTok
  iintro ⟨A, B⟩
  iframe

omit [FloatOps F] in
/-- A device's part of the tokens, with the credits, as the body takes it. -/
theorem deal (c : Dev nD) :
    iprop(linear c ∗ cred (tallyAt (kcell (c, none)) () 2)
        ∗ bigSep Finset.univ fun p : Fin 2 × Fin 12 => cred (tallyAt (kcell (c, some (rS p.1 p.2))) () (amt (some (rS p.1 p.2)))))
      ⊢ (iprop(InToks c ∗ BarTok c ∗ Toks c 0 1 ∗ Toks c 1 0 ∗ Landings c ∗ OutToks c) : sProp 𝕄) := by
  unfold linear payToks
  rw [sepOpt, sep69, sep69, bigSep_univ_prod, sep2]
  iintro ⟨⟨⟨⟨⟨AS0, AS1⟩, ⟨AR0, AR1⟩, AO, AI⟩, AN⟩, ⟨⟨TS0, TS1⟩, ⟨TR0, TR1⟩, TO, TI⟩, TB1, TB2⟩, CB, CR0, CR1⟩
  ihave S0 := (send_toks (F := F) c 0) $$ [AS0 TS0 TR0]
  · iframe
  ihave S1 := (send_toks (F := F) c 1) $$ [AS1 TS1 TR1]
  · iframe
  ihave O := (loc_toks (F := F) c oS fun k => dst_out k c) $$ [AO TO]
  · iframe
  ihave I := (loc_toks (F := F) c iS fun k => dst_in k c) $$ [AI TI]
  · iframe
  ihave F0 := (merge (S := Finset.univ) (C := fun s : Fin 12 => (Fly (F := F) c (rS 0 s) : sProp 𝕄)) (fun s => by unfold Fly; exact .rfl)) $$ [CR0 AR0]
  · isplitl [CR0] <;> iassumption
  ihave F1 := (merge (S := Finset.univ) (C := fun s : Fin 12 => (Fly (F := F) c (rS 1 s) : sProp 𝕄)) (fun s => by unfold Fly; exact .rfl)) $$ [CR1 AR1]
  · isplitl [CR1] <;> iassumption
  ihave S0 := (Entails.of_eq (sep12 fun s => SendTok (F := F) c 0 s)) $$ S0
  ihave S1 := (Entails.of_eq (sep12 fun s => SendTok (F := F) c 1 s)) $$ S1
  ihave F0 := (Entails.of_eq (sep12 fun s => Fly (F := F) c (rS 0 s))) $$ F0
  ihave F1 := (Entails.of_eq (sep12 fun s => Fly (F := F) c (rS 1 s))) $$ F1
  ihave O := (Entails.of_eq (sep16 fun k => LocTok (F := F) c (oS k))) $$ O
  ihave I := (Entails.of_eq (sep5 fun k => LocTok (F := F) c (iS k))) $$ I
  icases S0 with ⟨A0, A1, A2, A3, A4, A5, A6, A7, A8, A9, A10, A11⟩
  icases S1 with ⟨B0, B1, B2, B3, B4, B5, B6, B7, B8, B9, B10, B11⟩
  unfold InToks BarTok Toks Landings OutToks
  isplitl [I]; · iexact I
  isplitl [AN TB1 TB2 CB]; · iframe
  isplitl [A0 A1 A2 A3 A8 A9 B4 B5 B6 B7 B10 B11]; · iframe
  isplitl [B0 B1 B2 B3 B8 B9 A4 A5 A6 A7 A10 A11]; · iframe
  isplitl [F0 F1]
  · icases F0 with ⟨A0, A1, A2, A3, A4, A5, A6, A7, A8, A9, A10, A11⟩
    iframe
  iexact O

/-! ## The end -/

omit [FloatOps F] in
/-- All waits that are done, each semaphore in its next round. -/
theorem done_all (c : Dev nD) : ∀ l : List (Option (Fin 69)), l.Nodup →
    (Done c l ⊢ (bigSep l.toFinset fun k => atPos ER (kcell (c, k)) 1 ∅ 0 : sProp 𝕄))
  | [], _ => by
    show _ ⊢ bigSep (∅ : Finset (Option (Fin 69))) _
    rw [bigSep_empty]; exact .rfl
  | k :: l, h => by
    rw [List.toFinset_cons, bigSep_insert (fun h' => (List.nodup_cons.mp h).1 (List.mem_toFinset.mp h'))]
    exact sep_mono_right (done_all c l (List.nodup_cons.mp h).2)

/-- No semaphore is waited for twice, -/
theorem waits_nodup : waits.Nodup := by decide +kernel
/-- and every one is waited for. -/
theorem waits_all : waits.toFinset = Finset.univ := by decide +kernel

/-- With every semaphore waited for, all are at zero again. -/
theorem close_all (c : Dev nD) : iprop(INV m K ∗ Done c waits)
    ⊢ |={Set.univ}=> iprop(Pipeline.ownSems0 (Ix := Unit) (Name := ℕ) (U := UU) (Lvl := ℕ) (Val := Elt F) (τ := τ) osem c ∗ unscopedSems0 c : sProp 𝕄) := by
  rw [sems0_eq]
  refine (sep_mono_right (done_all c waits waits_nodup)).trans ?_
  rw [waits_all]
  refine (with_shared (Ψ := fun k => iprop(|={Set.univ}=> semVal (kcell (c, k)) 0)) fun k _ => ?_).trans (bigSep_fupd _ _)
  iintro ⟨I, At⟩
  ihave Ic := (INV_inv m K (c, k)) $$ I
  iapply (Rounds.cell_close ER (ringRd m) (Set.mem_univ (K (c, k))) (fun h => h) (R := 1) (duties_later m (kcell (c, k))))
  isplitl [Ic] <;> iassumption

end Cert.RingMM

end
-- ==== Proof.Launch.lean ====
/-
The launch: the kernel on every device, from any memory to the memory it leaves.
-/
module

public import proofs.«01_k».proof.Proof.Tokens
public import Idealize.ShloMosaic.Lib.Pipeline.CollectiveSegs

@[expose] public section

set_option backward.proofsInPublic true

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option (Fin 69) → ℕ)

/-! ## The body between its two states -/

/-- The arrays of device `c`, the result's holding `f`. -/
def Arrays (c : Dev nD) (f : Buf (Elt F) ((c : Thread nD τ).loc main_v1)) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} f))

/-- The kernel's scratch buffers, whatever they hold. -/
def Scratch (c : Dev nD) : sProp 𝕄 :=
  iprop((∃ X, ownsTc (Val := Elt F) c accW fullShare X) ∗ (∃ X, ownsTc (Val := Elt F) c xvW fullShare X)
    ∗ (∃ X, ownsTc (Val := Elt F) c wvW fullShare X) ∗ (∃ X, ownsTc (Val := Elt F) c (slab 0) fullShare X)
    ∗ (∃ X, ownsTc (Val := Elt F) c (slab 1) fullShare X))

/-- The kernel's scratch buffers, by name. -/
theorem scratch_eq (c : Dev nD) : (Pipeline.scopedRest (Ix := Unit) (Name := ℕ) (U := UU) (Lvl := ℕ) (Val := Elt F) cfg0.spec c : sProp 𝕄) = Scratch c := by
  unfold Scratch
  rw [scopedRest0_eq, ← any_whole, ← any_whole, ← any_whole, ← any_whole, ← any_whole]
  rfl

/-- Everything a device brings to the kernel. -/
def start (c : Dev nD) : sProp 𝕄 :=
  iprop(G' m c ∗ (cred (tallyAt (kcell (c, none)) () 2)
        ∗ bigSep Finset.univ fun p : Fin 2 × Fin 12 => cred (tallyAt (kcell (c, some (rS p.1 p.2))) () (amt (some (rS p.1 p.2)))))
    ∗ levAts L lv ∗ Arrays m c (m ((c : Thread nD τ).loc main_v1)))

/-- What the kernel starts from, -/
def Φ₀ (c : Dev nD) : sProp 𝕄 := iprop(start m c ∗ Scratch (F := F) c)
/-- and what it leaves. -/
def Φ₁ (c : Dev nD) : sProp 𝕄 :=
  iprop(Arrays m c (result m)
    ∗ (Pipeline.ownSems0 (Ix := Unit) (Name := ℕ) (U := UU) (Lvl := ℕ) (Val := Elt F) (τ := τ) osem c ∗ unscopedSems0 c) ∗ Scratch (F := F) c)

/-- What all devices share, gathered. -/
theorem inv_intro : iprop(((bigSep Finset.univ fun ck : Dev nD × Option (Fin 69) => cellInv ER (ringRd m) (K ck) (kcell ck))
    ∗ (bigSep Finset.univ fun ck : Dev nD × Option (Fin 69) => reached ER (kcell ck) 0)) ∗ levAts L lv) ⊢ INV m K := by
  unfold INV; exact Idealize.SL.BI.sep_assoc

set_option maxHeartbeats 1000000 in
/-- The kernel at device `c`, from what it starts from to what it leaves. -/
theorem body_run (c : Dev nD) :
    iprop(Φ₀ m c ∗ ∃ W, owes (c : Thread nD τ) (owed c pays) W)
      ⊢ WP c (cc0_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10)
        (fun _ => iprop(Φ₁ m c ∗ ∃ W, owes (c : Thread nD τ) (0 : CellTallies nD τ sig Unit) W)) := by
  refine Idealize.SL.BI.Entails.trans ?_ (wp_fupd _ _ _ _ _)
  unfold Φ₀ start G' Arrays Scratch
  show (iprop(_ ∗ _) : sProp 𝕄) ⊢ _
  iintro ⟨⟨⟨⟨%K, HIR, Lin⟩, Cr, Lev, H0, H1, H2⟩, S0, S1, S2, S3, S4⟩, HO⟩
  ihave #I := (inv_intro m K) $$ [HIR Lev]
  · isplitl [HIR] <;> iassumption
  ihave D := (deal (F := F) c) $$ [Lin Cr]
  · isplitl [Lin] <;> iassumption
  icases D with ⟨It, Bt, T0, T1, Ld, Ot⟩
  ihave H0 := (show _ ⊢ (ownsTc c xaW fullShare (Xd m c) : sProp 𝕄) from Entails.of_eq (owns_whole (c : Thread nD τ) main_arg0 fullShare _).symm) $$ H0
  ihave H1 := (show _ ⊢ (ownsTc c waW fullShare (Wd m c) : sProp 𝕄) from Entails.of_eq (owns_whole (c : Thread nD τ) main_arg1 fullShare _).symm) $$ H1
  ihave H2 := (show _ ⊢ (ownsTc c outW fullShare (m ((c : Thread nD τ).loc main_v1)) : sProp 𝕄) from Entails.of_eq (owns_whole (c : Thread nD τ) main_v1 fullShare _).symm) $$ H2
  ihave X := (xs_in m c) $$ [H0 S1]
  · isplitl [H0] <;> iassumption
  icases X with ⟨X0, X1, X2, X3⟩
  ihave Acc := (accs_in (F := F) c) $$ S0
  ihave Sl0 := (slots_in (F := F) c 0) $$ S3
  ihave Sl1 := (slots_in (F := F) c 1) $$ S4
  ihave Gv := (gives_in (F := F) c) $$ [Sl0 Sl1]
  · isplitl [Sl0] <;> iassumption
  icases Gv with ⟨g10, g01⟩
  ihave Out := (outs_in (F := F) c) $$ [H2]
  · iexists _; iexact H2
  unfold InToks
  icases It with ⟨I0, I1, I2, I3, I4⟩
  iapply (body_wp m K c) $$ I [I0 I1 I2 I3 I4 H1 S2 X0 X1 X2 X3] Acc Bt g10 g01 T0 T1 Ld Ot Out [HO]
  · unfold Ins WIn; iframe
  · unfold St Done
    isplitl [HO]; · iexact HO
    iempintro
  iintro IB SA SB GA GB OB HS
  unfold St InsBack wPay
  icases HS with ⟨⟨%W, HO⟩, HD⟩
  imod (close_all m K c) $$ [HD] with Hz
  · isplitr; · iexact I
    iexact HD
  icases IB with ⟨⟨Wv, Wa⟩, X0, X1, X2, X3⟩
  ihave X := (xs_out m c) $$ [X0 X1 X2 X3]
  · iframe
  icases X with ⟨H0, S1⟩
  ihave R := (all_back m c) $$ [SA SB GA GB OB]
  · iframe
  icases R with ⟨H2, S0, S3, S4⟩
  imodintro
  unfold Φ₁ Arrays Scratch
  isplitr [HO]
  · isplitl [H0 Wa H2]
    · isplitl [H0]
      · iapply (show (ownsTc c xaW fullShare (Xd m c) : sProp 𝕄) ⊢ _ from Entails.of_eq (owns_whole (c : Thread nD τ) main_arg0 fullShare _)) $$ H0
      isplitl [Wa]
      · iapply (show (ownsTc c waW fullShare (Wd m c) : sProp 𝕄) ⊢ _ from Entails.of_eq (owns_whole (c : Thread nD τ) main_arg1 fullShare _)) $$ Wa
      iapply (show (ownsTc c outW fullShare (result m) : sProp 𝕄) ⊢ _ from Entails.of_eq (owns_whole (c : Thread nD τ) main_v1 fullShare _)) $$ H2
    isplitl [Hz]; · iexact Hz
    isplitl [S0]; · iexact S0
    isplitl [S1]; · iexact S1
    isplitl [Wv]; · iexists _; iexact Wv
    isplitl [S3] <;> iassumption
  iexists W
  iexact HO

/-! ## The launch -/

variable (ρ : Dev nD → PrngReg)

/-- What the launch says of device `c`. -/
def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owed c pays
    | ⟨_ + 1, _⟩ => 0

set_option maxRecDepth 20000 in
/-- The kernel's one step, as the launch asks for it. -/
theorem body_obligation (c : Dev nD) : Pipeline.BodyObligation (dats (F := F) m 0 c) (defs₀ (F := F)) 𝒱₀ () Set.univ := fun t => by
  rw [fin_N0 t]
  have e : ∀ Φ : Fin cfg0.W → sProp 𝕄, bigSep Finset.univ Φ = iprop(emp) := fun Φ => bigSep_empty
  rw [e, e]
  have h₁ : iprop((dats m 0 c).Φ t0_0.castSucc ∗ (dats m 0 c).owesAt () t0_0.castSucc ∗ emp)
      ⊢ iprop(Φ₀ m c ∗ ∃ W, owes (c : Thread nD τ) (owed c pays) W) := by
    rw [show (dats m 0 c).Φ t0_0.castSucc = Φ₀ m c from rfl]
    unfold Pipeline.Dat.owesAt Pipeline.owesWithin
    rw [show (dats (F := F) m 0 c).owed t0_0.castSucc = owed c pays from rfl]
    iintro ⟨HP, ⟨%W, %hW, HO⟩, -⟩
    isplitl [HP]; · iexact HP
    iexists W; iexact HO
  have h₂ : iprop(Φ₁ m c ∗ ∃ W, owes (c : Thread nD τ) (0 : CellTallies nD τ sig Unit) W)
      ⊢ iprop((dats m 0 c).Φ t0_0.succ ∗ (dats m 0 c).owesAt () t0_0.succ ∗ emp) := by
    rw [show (dats m 0 c).Φ t0_0.succ = Φ₁ m c from rfl]
    unfold Pipeline.Dat.owesAt Pipeline.owesWithin
    rw [show (dats (F := F) m 0 c).owed t0_0.succ = 0 from rfl]
    iintro ⟨HP, ⟨%W, HO⟩⟩
    isplitl [HP]; · iexact HP
    isplitl [HO]
    · iexists W
      isplitr; · ipureintro; exact fun _ _ => Or.inl trivial
      iexact HO
    iempintro
  exact h₁.trans ((body_run m c).trans (wp_mono _ _ _ fun _ => h₂))

set_option maxRecDepth 20000 in
/-- The kernel's semaphores are all the scoped ones, each once. -/
theorem ownSemFacts : Pipeline.OwnSemFacts cfg0.spec osem :=
  ⟨by decide +kernel, fun a b h => SemLoc.dma.inj h, fun _ w => w.elim0⟩

/-- What the launch deals to a device is what the device brings, -/
theorem start_intro (c : Dev nD) :
    iprop(Pipeline.unscopedRestP Pipeline.Prefetch.none cfg0.spec c (fun b => m ((c : Thread nD τ).loc b)) ∗ levAts L lv
        ∗ Pipeline.launchCred (fun d => owed d pays) c ∗ prngReg c (ρ c) ∗ G' m c)
      ⊢ |={Set.univ}=> iprop(start m c ∗ emp) := by
  rw [Pipeline.unscopedRestP_none, unscopedRest0_eq]
  iintro ⟨HA, Hlev, Hcr, -, HG⟩
  ihave Hc := (creds (F := F) c) $$ Hcr
  imodintro
  unfold start Arrays
  isplitl
  · isplitl [HG]; · iexact HG
    isplitl [Hc]; · iexact Hc
    isplitl [Hlev]; · iexact Hlev
    iexact HA
  · iempintro

/-- which with the scratch buffers is what the kernel starts from; -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

/-- What is read of the final memory. -/
def Y (c : Dev nD) : sProp 𝕄 := iprop(unscopedSems0 c ∗ Arrays m c (result m))

/-- what it leaves is what is read at the end and the scratch again. -/
theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scratch_eq]
  unfold Φ₁ Y
  iintro ⟨HA, ⟨Ho, Hu⟩, HS⟩
  iframe

/-- No windows, so no waits of theirs to be justified. -/
theorem levels (c : Dev nD) : (levAts L lv : sProp 𝕄) ⊢ Pipeline.cellsWaits cfgs (dats m) () 0 c :=
  Pipeline.cellsWaits_intro cfgs (dats m) () 0 c fun w s t => w.elim0

/-- What the final memory of device `c` holds. -/
def QY (c : Dev nD) (s : MemSt nD τ sig (Elt F)) : Prop :=
  (∀ sm : SemLoc sig, sm.isScoped .tc = false → s.sem ((c : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = result m

/-- The final memory, read off what the kernel left. -/
theorem read_final (c : Dev nD) (s' : Phys nD τ sig (Elt F)) :
    iprop(Y m c ∗ emp ∗ SI s') ⊢ (|={Set.univ}=> iprop(⌜QY m c s'.mem⌝ ∗ SI s') : sProp 𝕄) := by
  have rd : ∀ (b : Ref sig .tc) (f : Buf (Elt F) ((c : Thread nD τ).loc b)),
      iprop((((c : Thread nD τ).loc b) ↦{fullShare} f) ∗ SI s') ⊢ (⌜s'.mem.mem ((c : Thread nD τ).loc b) = f⌝ : sProp 𝕄) := by
    intro b f
    iintro ⟨H, HSI⟩
    ihave %h := (SI_pointsTo_agree) $$ [H HSI]
    · isplitl [HSI] <;> iassumption
    ipureintro
    exact funext fun i => h i (Finset.mem_univ i)
  unfold Y Arrays
  iintro ⟨⟨Hu, H0, H1, H2⟩, -, HSI⟩
  ihave %h0 := (rd main_arg0 _) $$ [H0 HSI]
  · isplitl [H0] <;> iassumption
  ihave %h1 := (rd main_arg1 _) $$ [H1 HSI]
  · isplitl [H1] <;> iassumption
  ihave %h2 := (rd main_v1 _) $$ [H2 HSI]
  · isplitl [H2] <;> iassumption
  imod (Pipeline.unscopedSems0_read (X := unscopedSems0 c) (c := c) fupd_intro s') $$ [Hu HSI] with ⟨%hu, HSI⟩
  · isplitl [Hu] <;> iassumption
  imodintro
  isplitr
  · ipureintro; exact ⟨hu, h0, h1, h2⟩
  iexact HSI

set_option maxRecDepth 20000 in
/-- From any memory with every counter at zero, over any float values: the kernel ends on every device, with the
    operands as they were, the result as computed, and every semaphore at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = result m) ∧ r.2.sem = fun _ => 0) :=
  haveI : ∀ e, Nonempty (Elt F e) := inferInstance
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun d => owed d pays) (howed₀ := fun _ => rfl) (howedN := fun _ => rfl)
    (L := L) (lv := lv) (hL := L_of_ne) (hwaits := levels m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := Y m) (Z := fun _ => iprop(emp))
    (hX := start_intro m ρ) (hin := phi0_intro m) (hout := phi1_exit m)
    (QY := QY m) (hY := read_final m)
    (hQ := fun _ h hs => ⟨fun c => (h c).2.2.2, sem_eq_zero hs fun c => (h c).2.2.1⟩)

end Cert.RingMM

end
-- ==== Proof.Value.lean ====
/-
What the kernel computes over the extended reals, and that the reference computes the same.
-/
module

public import proofs.«01_k».proof.Proof.Launch
public import proofs.«01_k».proof.Proof.Gen.ReferenceIdeal
public import Idealize.ShloMosaic.Lib.MatmulPlain
public import Idealize.ShloMosaic.Lib.StackMember
public import Idealize.ShloMosaic.Lib.ValueIdx
public import Idealize.ShloMosaic.Lib.Layout

@[expose] public section

set_option backward.proofsInPublic true

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable (mi : (ℓ : Loc nD τ sig) → Buf (Elt Ideal) ℓ)

/-! ## The arithmetic over the extended reals -/

/-- One device's share of the product at a row and a column. -/
def part (d : Dev nD) (r c : Fin 2048) : EReal := ∑ k : Fin 512, (Xd mi d (ix2 r k) : EReal) * (Wd mi d (ix2 k c) : EReal)

/-- A half chunk's product, entry by entry. -/
theorem pay3_at (a : FVec Ideal S256x512 .f32) (b : FVec Ideal S512x1024 .f32) (r : Fin 256) (c : Fin 1024) :
    (k0_pay3 (F := Ideal) a b (ix2 r c) : EReal) = ∑ k : Fin 512, (a (ix2 r k) : EReal) * (b (ix2 k c) : EReal) := by
  unfold k0_pay3
  rw [shapeCast_self]
  refine (Ideal.matmul_plain_apply (M := 256) (K := 512) (N := 1024) none a b (constant S256x1024 .f32 0x00000000#32) r c).trans ?_
  rw [constant_apply, Ideal.ofBits_zero_f32, zero_add]

/-- A whole chunk's product, entry by entry. -/
theorem pay7_at (a : FVec Ideal S512x512 .f32) (b : FVec Ideal S512x1024 .f32) (r : Fin 512) (c : Fin 1024) :
    (k0_pay7 (F := Ideal) a b (ix2 r c) : EReal) = ∑ k : Fin 512, (a (ix2 r k) : EReal) * (b (ix2 k c) : EReal) := by
  unfold k0_pay7
  rw [shapeCast_self]
  refine (Ideal.matmul_plain_apply (M := 512) (K := 512) (N := 1024) none a b (constant S512x1024 .f32 0x00000000#32) r c).trans ?_
  rw [constant_apply, Ideal.ofBits_zero_f32, zero_add]

/-- A value put into a slot and read back. -/
theorem cast_unsq (V : V2 Ideal) : shapeCast S256x1024 (unsq V) shapeCasts_S1x256x1024_S256x1024 = V := by
  funext i
  show unsq V (Shape.reshapeEquiv _ i) = V i
  unfold unsq
  exact congrArg V (Equiv.symm_apply_apply _ _)

/-- Two indices with the same coordinates. -/
theorem idx_ext {n0 n1 : ℕ} (x y : (⟨2, ![n0, n1]⟩ : Shape).Idx) (h0 : (x 0).val = (y 0).val) (h1 : (x 1).val = (y 1).val) : x = y := by
  funext a
  match a with
  | ⟨0, _⟩ => exact Fin.ext h0
  | ⟨1, _⟩ => exact Fin.ext h1

/-- The row and the column in the whole result of a place in a half chunk. -/
def row (q : Dev nD) (j : Fin 2) (r : Fin 256) : Fin 2048 := ⟨512 * q.val + 256 * j.val + r.val, by have : q.val < 4 := q.isLt; omega⟩
@[inherit_doc row] def col (h : Fin 2) (c : Fin 1024) : Fin 2048 := ⟨1024 * h.val + c.val, by omega⟩

/-- The place of a half chunk in the whole result. -/
theorem half_at (q : Dev nD) (j h : Fin 2) (r : Fin 256) (c : Fin 1024) : (rHalf q j h).emb (ix2 r c) = ix2 (row q j r) (col h c) :=
  idx_ext (n0 := 2048) (n1 := 2048) _ _ (by show 512 * q.val + 256 * j.val + 1 * r.val = 512 * q.val + 256 * j.val + r.val; omega)
    (by show 1024 * h.val + 1 * c.val = 1024 * h.val + c.val; omega)

/-- The columns of the second operand that a direction reads. -/
theorem wh_at (d : Dev nD) (h : Fin 2) (k : Fin 512) (c : Fin 1024) : wh mi d h (ix2 k c) = Wd mi d (ix2 k (col h c)) :=
  congrArg (Wd mi d) (idx_ext (n0 := 512) (n1 := 2048) _ _ (by show 0 + 1 * k.val = k.val; omega)
    (by show 1024 * h.val + 1 * c.val = 1024 * h.val + c.val; omega))

/-- The rows of the first operand that a chunk reads. -/
theorem x5_at (d q : Dev nD) (j : Fin 2) (r : Fin 256) (k : Fin 512) :
    x5 mi d q (ix2 (⟨256 * j.val + r.val, by omega⟩ : Fin 512) k) = Xd mi d (ix2 (row q j r) k) :=
  congrArg (Xd mi d) (idx_ext (n0 := 2048) (n1 := 512) _ _
    (by show 512 * q.val + 1 * (256 * j.val + r.val) = 512 * q.val + 256 * j.val + r.val; omega)
    (by show 0 + 1 * k.val = k.val; omega))

/-- The rows of the first operand that a half chunk reads. -/
theorem xs_at (d q : Dev nD) (j : Fin 2) (r : Fin 256) (k : Fin 512) : xs mi d q j (ix2 r k) = Xd mi d (ix2 (row q j r) k) := by
  rw [← x5_at]
  exact congrArg (x5 mi d q) (idx_ext (n0 := 512) (n1 := 512) _ _ (by show 256 * j.val + 1 * r.val = 256 * j.val + r.val; omega)
    (by show 0 + 1 * k.val = k.val; omega))

/-- A half chunk's product is the device's share there. -/
theorem P2_at (d q : Dev nD) (j h : Fin 2) (r : Fin 256) (c : Fin 1024) : (P2 mi d q j h (ix2 r c) : EReal) = part mi d (row q j r) (col h c) := by
  unfold P2 part
  refine (pay3_at _ _ r c).trans (Finset.sum_congr rfl fun k _ => ?_)
  rw [xs_at, wh_at]

/-- Half of a whole chunk's product is the device's share there. -/
theorem P5_at (d q : Dev nD) (j h : Fin 2) (r : Fin 256) (c : Fin 1024) :
    (sub j (P5 mi d q h) (ix2 r c) : EReal) = part mi d (row q j r) (col h c) := by
  have e : (rSub j).emb (ix2 r c) = ix2 (⟨256 * j.val + r.val, by omega⟩ : Fin 512) c :=
    idx_ext (n0 := 512) (n1 := 1024) _ _ (by show 256 * j.val + 1 * r.val = 256 * j.val + r.val; omega)
      (by show 0 + 1 * c.val = c.val; omega)
  unfold sub P5 part
  rw [e]
  refine (pay7_at _ _ _ c).trans (Finset.sum_congr rfl fun k _ => ?_)
  rw [x5_at, wh_at]

/-- The four shares of a chunk in the order in which a direction adds them. -/
theorem sum_shares (h : Fin 2) (q : Dev nD) (f : Dev nD → EReal) :
    f (dn h q) + (f q + f (up h q)) + f (opp q) = ∑ d : Dev nD, f d := by
  have e : (Finset.univ : Finset (Dev nD)) = {dn h q, q, up h q, opp q} := by revert h q; decide +kernel
  have d1 : dn h q ∉ ({q, up h q, opp q} : Finset (Dev nD)) := by revert h q; decide +kernel
  have d2 : q ∉ ({up h q, opp q} : Finset (Dev nD)) := by revert h q; decide +kernel
  have d3 : up h q ∉ ({opp q} : Finset (Dev nD)) := by revert h q; decide +kernel
  rw [e, Finset.sum_insert d1, Finset.sum_insert d2, Finset.sum_insert d3, Finset.sum_singleton]
  simp only [add_assoc]

/-- What a half chunk of the result holds. -/
theorem VR_at (q : Dev nD) (j h : Fin 2) (r : Fin 256) (c : Fin 1024) :
    (VR mi q j h (ix2 r c) : EReal) = max (∑ d : Dev nD, part mi d (row q j r) (col h c)) 0 := by
  have hB : (VB mi q j h (ix2 r c) : EReal) = part mi q (row q j r) (col h c) + part mi (up h q) (row q j r) (col h c) := by
    unfold VB k0_pay13
    rw [shapeCast_self, addf_apply, cast_unsq, P5_at]
    exact congrArg _ (P2_at mi (up h q) q j h r c)
  rw [← sum_shares h q]
  unfold VR k0_pay17
  rw [shapeCast_self, maximumf_apply, addf_apply, addf_apply, cast_unsq, cast_unsq, P5_at, hB]
  unfold VD
  rw [P5_at, broadcast_apply]
  exact congrArg _ Ideal.ofBits_zero_f32

/-- The result, entry by entry. -/
theorem result_value (x : S2048x2048.Idx) : (result mi x : EReal) = max (∑ d : Dev nD, part mi d (x 0) (x 1)) 0 := by
  obtain ⟨⟨q, j, h⟩, hp⟩ := rHalf_mem x
  rw [← Rect.map_emb_univ] at hp
  obtain ⟨i, -, e⟩ := Finset.mem_map.mp hp
  have e' : ix2 (row q j (i 0)) (col h (i 1)) = x :=
    (half_at q j h (i 0) (i 1)).symm.trans ((congrArg (rHalf q j h).emb (eq_ix2 (n0 := 256) (n1 := 1024) i).symm).trans e)
  have v : result mi (ix2 (row q j (i 0)) (col h (i 1))) = VR mi q j h (ix2 (i 0) (i 1)) :=
    (congrArg (result mi) (half_at q j h (i 0) (i 1)).symm).trans (result_at mi q j h _)
  subst e'
  exact v.trans (VR_at mi q j h (i 0) (i 1))

/-! ## The reference -/

/-- A sum over the whole contraction is the sum of the devices' sums. -/
theorem sum_blocks (f : Fin 2048 → EReal) : ∑ k : Fin 2048, f k = ∑ d : Dev nD, ∑ k : Fin 512, f ⟨512 * d.val + k.val, by have : d.val < 4 := d.isLt; omega⟩ := by
  refine Eq.trans ?_ (Fintype.sum_prod_type' (fun (d : Fin 4) (k : Fin 512) => f ⟨512 * d.val + k.val, by omega⟩))
  refine (Fintype.sum_equiv (finProdFinEquiv (m := 4) (n := 512)) _ _ fun p => ?_).symm
  exact congrArg f (Fin.ext (Nat.add_comm _ _))

/-- If the devices hold the blocks of two arrays, the result is the reference's of the two arrays. -/
theorem result_eq (A B : S2048x2048.Idx → EReal)
    (hA : ∀ d : Dev nD, Xd mi d = Layout.block ⟨2, ![2048, 512]⟩ ⟨2, ![2048, 2048]⟩ 1 4 d A)
    (hB : ∀ d : Dev nD, Wd mi d = Layout.block ⟨2, ![512, 2048]⟩ ⟨2, ![2048, 2048]⟩ 0 4 d B) (x : S2048x2048.Idx) :
    (result mi x : EReal) = max (∑ k : Fin 2048, A (ix2 (x 0) k) * B (ix2 k (x 1))) 0 := by
  rw [result_value, sum_blocks]
  refine congrArg (max · 0) (Finset.sum_congr rfl fun d _ => Finset.sum_congr rfl fun k _ => ?_)
  rw [hA d, hB d, Layout.block_apply, Layout.block_apply]
  refine congrArg₂ (fun a b => A a * B b) (idx_ext (n0 := 2048) (n1 := 2048) _ _ rfl ?_) (idx_ext (n0 := 2048) (n1 := 2048) _ _ ?_ rfl)
  · refine (Layout.idx_cols_val _ d _).2.trans ?_
    show d.val * 512 + k.val = 512 * d.val + k.val
    omega
  · refine (Layout.idx_rows_val _ d _).1.trans ?_
    show d.val * 512 + k.val = 512 * d.val + k.val
    omega

/-- What the reference computes, entry by entry. -/
theorem reference_at (A B : S2048x2048.Idx → EReal) (x : S2048x2048.Idx) :
    (maximumf (F := Ideal) (φ := .f32) (Host.dotGeneral (φ₁ := .f32) (φ₂ := .f32) Cert.ReferenceIdeal.dot_S2048x2048_S2048x2048_S2048x2048_1_0_0_1_n_n none A B)
      (broadcastInDim S2048x2048 ![] Cert.ReferenceIdeal.Gen.bcast_S_S2048x2048 (constant Cert.ReferenceIdeal.S_ .f32 0x00000000#32)) x : EReal)
    = max (∑ k : Fin 2048, A (ix2 (x 0) k) * B (ix2 k (x 1))) 0 := by
  refine congrArg₂ max ?_ Ideal.ofBits_zero_f32
  refine Eq.trans (congrArg (Host.dotGeneral (F := Ideal) (φ₁ := .f32) (φ₂ := .f32) Cert.ReferenceIdeal.dot_S2048x2048_S2048x2048_S2048x2048_1_0_0_1_n_n none A B)
    (eq_ix2 (n0 := 2048) (n1 := 2048) x)) ?_
  exact StackMember.dotGeneral_plain_apply (m := 2048) (k := 2048) (n := 2048) (φ₁ := .f32) (φ₂ := .f32) none A B (x 0) (x 1)

end Cert.RingMM

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs to the end, leaves its operands as they were and its semaphores at zero. -/
theorem frame_kernel : Cert.quiescent_Kernel (hKernel := Cert.Kernel.Gen.facts) := fun m ρ _ =>
  (θ_run Cert.KernelIdeal.defs _ _).mono (fun _ h => ⟨fun c => ⟨(h.1 c).1, (h.1 c).2.1⟩, h.2⟩) (Cert.RingMM.run_main (F := Bits) m ρ)

/-- The same over the extended reals. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.RingMM.run_main (F := Ideal) m ρ)

/-- The reference runs to the end and leaves its operands as they were; it has no semaphores. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's result. -/
theorem value : Cert.algebraic_KernelIdeal_ReferenceIdeal (hKernelIdeal := Cert.KernelIdeal.Gen.facts)
    (hReferenceIdeal := Cert.ReferenceIdeal.Gen.facts) := fun m ρ m' ρ' _ hin =>
  ⟨Cert.RingMM.result m,
    (θ_run Cert.KernelIdeal.defs _ _).mono (fun _ h c => ⟨(h.1 c).2.2, (h.1 c).1, (h.1 c).2.1⟩) (Cert.RingMM.run_main (F := Ideal) m ρ),
    (θ_run Cert.ReferenceIdeal.defs _ _).mono (fun _ h => ⟨(h 0).1.trans (funext fun x =>
        (Cert.RingMM.reference_at _ _ x).trans (Cert.RingMM.result_eq m _ _ (fun d => (hin d).1) (fun d => (hin d).2) x).symm),
      (h 0).2.1, (h 0).2.2⟩)
      (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
